-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_maps_stay_beside [hPre_maps_stay_beside : Cert.Pre_maps_stay_beside.Facts] (m : (ℓ : Loc Cert.KernelIdeal.nD Cert.KernelIdeal.τ Cert.KernelIdeal.sig) → Buf (Elt Ideal) ℓ) : Prop :=
  ∀ c : Dev Cert.KernelIdeal.nD,
    (Cert.Pre_maps_stay_beside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_maps_stay_beside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_maps_stay_beside [hPre_maps_stay_beside : Cert.Pre_maps_stay_beside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_maps_stay_beside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_maps_stay_beside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_maps_stay_beside [hKernelIdeal : Cert.KernelIdeal.Facts] [hPre_maps_stay_beside : Cert.Pre_maps_stay_beside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_maps_stay_beside m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_maps_stay_beside [hReferenceIdeal : Cert.ReferenceIdeal.Facts] [hPre_maps_stay_beside : Cert.Pre_maps_stay_beside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_maps_stay_beside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_maps_stay_beside [hKernelIdeal : Cert.KernelIdeal.Facts] [hReferenceIdeal : Cert.ReferenceIdeal.Facts] [hPre_maps_stay_beside : Cert.Pre_maps_stay_beside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_maps_stay_beside m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_maps_stay_beside : Cert.Pre_maps_stay_beside.Facts),
    quiescent_Kernel (hKernel := hKernel)
    ∧ quiescent_KernelIdeal (hKernelIdeal := hKernelIdeal)
    ∧ quiescent_KernelIdeal_pre_maps_stay_beside (hKernelIdeal := hKernelIdeal) (hPre_maps_stay_beside := hPre_maps_stay_beside)
    ∧ quiescent_ReferenceIdeal (hReferenceIdeal := hReferenceIdeal)
    ∧ quiescent_ReferenceIdeal_pre_maps_stay_beside (hReferenceIdeal := hReferenceIdeal) (hPre_maps_stay_beside := hPre_maps_stay_beside)
    ∧ preserves_Kernel_KernelIdeal
    ∧ algebraic_KernelIdeal_ReferenceIdeal_pre_maps_stay_beside (hKernelIdeal := hKernelIdeal) (hReferenceIdeal := hReferenceIdeal) (hPre_maps_stay_beside := hPre_maps_stay_beside)
-- ==== Pre_maps_stay_beside.lean ====
abbrev S32x721x1440 : Shape := ⟨3, ![32, 721, 1440]⟩
abbrev S720x1440 : Shape := ⟨2, ![720, 1440]⟩
abbrev S_ : Shape := ⟨0, ![]⟩

class Facts : Prop where
  bcast_S_S720x1440 : S_.BroadcastsInDim S720x1440 (![] : Fin 0 → Fin S720x1440.rank)
  bcast_S_S32x721x1440 : S_.BroadcastsInDim S32x721x1440 (![] : Fin 0 → Fin S32x721x1440.rank)

variable [Facts]

def fn_part1 {F : FTy → Type} [FloatOps F] (main_arg0 : FVec F S32x721x1440 .f32) (main_v8 : IVec S720x1440 1) (main_v17 : IVec S720x1440 1) (main_v18 : IVec S720x1440 1) : IVec S32x721x1440 1 × IVec S720x1440 1 :=
  let main_v19 : IVec S720x1440 1 := andi main_v17 main_v18
  let main_v20 : FVec F S32x721x1440 .f32 := Host.absf main_arg0
  let main_cst_4 : FVec F S_ .f32 := constant S_ .f32 0x7F800000#32
  let main_v21 : FVec F S32x721x1440 .f32 := broadcastInDim S32x721x1440 ![] bcast_S_S32x721x1440 main_cst_4
  let main_v22 : IVec S32x721x1440 1 := cmpf .olt main_v20 main_v21
  let main_v23 : IVec S720x1440 1 := andi main_v8 main_v19
  (main_v22, main_v23)

def fn {F : FTy → Type} [FloatOps F] (main_arg0 : FVec F S32x721x1440 .f32) (main_arg1 : FVec F S720x1440 .f32) (main_arg2 : FVec F S720x1440 .f32) : IVec S32x721x1440 1 × IVec S720x1440 1 :=
  let main_v0 : IVec S720x1440 32 := iotaInDim S720x1440 32 0
  let main_v1 : FVec F S720x1440 .f32 := sitofp .f32 main_v0
  let main_v2 : IVec S720x1440 32 := iotaInDim S720x1440 32 1
  let main_v3 : FVec F S720x1440 .f32 := sitofp .f32 main_v2
  let main_v4 : IVec S720x1440 1 := cmpf .ole main_v1 main_arg1
  let main_cst : FVec F S_ .f32 := constant S_ .f32 0x3F800000#32
  let main_v5 : FVec F S720x1440 .f32 := broadcastInDim S720x1440 ![] bcast_S_S720x1440 main_cst
  let main_v6 : FVec F S720x1440 .f32 := addf main_v1 main_v5
  let main_v7 : IVec S720x1440 1 := cmpf .olt main_arg1 main_v6
  let main_v8 : IVec S720x1440 1 := andi main_v4 main_v7
  let main_cst_0 : FVec F S_ .f32 := constant S_ .f32 0x3F800000#32
  let main_v9 : FVec F S720x1440 .f32 := broadcastInDim S720x1440 ![] bcast_S_S720x1440 main_cst_0
  let main_v10 : FVec F S720x1440 .f32 := subf main_v3 main_v9
  let main_cst_1 : FVec F S_ .f32 := constant S_ .f32 0x00000000#32
  let main_v11 : FVec F S720x1440 .f32 := broadcastInDim S720x1440 ![] bcast_S_S720x1440 main_cst_1
  let main_v12 : FVec F S720x1440 .f32 := maximumf main_v10 main_v11
  let main_cst_2 : FVec F S_ .f32 := constant S_ .f32 0x3F800000#32
  let main_v13 : FVec F S720x1440 .f32 := broadcastInDim S720x1440 ![] bcast_S_S720x1440 main_cst_2
  let main_v14 : FVec F S720x1440 .f32 := addf main_v3 main_v13
  let main_cst_3 : FVec F S_ .f32 := constant S_ .f32 0x44B3E000#32
  let main_v15 : FVec F S720x1440 .f32 := broadcastInDim S720x1440 ![] bcast_S_S720x1440 main_cst_3
  let main_v16 : FVec F S720x1440 .f32 := minimumf main_v14 main_v15
  let main_v17 : IVec S720x1440 1 := cmpf .ole main_v12 main_arg2
  let main_v18 : IVec S720x1440 1 := cmpf .olt main_arg2 main_v16
  fn_part1 (F := F) main_arg0 main_v8 main_v17 main_v18
-- ==== Kernel.lean ====
abbrev S32x721x1440 : Shape := ⟨3, ![32, 721, 1440]⟩
abbrev S720x1440 : Shape := ⟨2, ![720, 1440]⟩
abbrev S32x1x1440 : Shape := ⟨3, ![32, 1, 1440]⟩
abbrev S32x720x1440 : Shape := ⟨3, ![32, 720, 1440]⟩
abbrev S16x1440 : Shape := ⟨2, ![16, 1440]⟩
abbrev S32x16x1440 : Shape := ⟨3, ![32, 16, 1440]⟩
abbrev S4x32x16x1440 : Shape := ⟨4, ![4, 32, 16, 1440]⟩
abbrev S4 : Shape := ⟨1, ![4]⟩
abbrev S1 : Shape := ⟨1, ![1]⟩
abbrev S_ : Shape := ⟨0, ![]⟩
abbrev S1x32x16x1440 : Shape := ⟨4, ![1, 32, 16, 1440]⟩
abbrev S1x16x1440 : Shape := ⟨3, ![1, 16, 1440]⟩
abbrev S1x1440 : Shape := ⟨2, ![1, 1440]⟩
abbrev S15x1440 : Shape := ⟨2, ![15, 1440]⟩
abbrev S1x1x1440 : Shape := ⟨3, ![1, 1, 1440]⟩
abbrev S1x32x1x1440 : Shape := ⟨4, ![1, 32, 1, 1440]⟩
abbrev S32x16x1 : Shape := ⟨3, ![32, 16, 1]⟩
abbrev S32x16x1439 : Shape := ⟨3, ![32, 16, 1439]⟩
abbrev S32x1x1 : Shape := ⟨3, ![32, 1, 1]⟩
abbrev S32x1x1439 : Shape := ⟨3, ![32, 1, 1439]⟩
abbrev S32x15x1440 : Shape := ⟨3, ![32, 15, 1440]⟩

abbrev nBuf : Space → Nat
  | .hbm => 5
  | .vmem => 8
  | .smem => 0
  | _ => 0

abbrev bufTy : (tb : Table) → Fin (tcTables nBuf tb) → BufTy
  | .hbm, ⟨0, _⟩ => ⟨S32x721x1440, .f32⟩
  | .hbm, ⟨1, _⟩ => ⟨S720x1440, .f32⟩
  | .hbm, ⟨2, _⟩ => ⟨S720x1440, .f32⟩
  | .hbm, ⟨3, _⟩ => ⟨S32x1x1440, .f32⟩
  | .hbm, ⟨4, _⟩ => ⟨S32x720x1440, .f32⟩
  | .local _ .vmem, ⟨0, _⟩ => ⟨S16x1440, .f32⟩
  | .local _ .vmem, ⟨1, _⟩ => ⟨S16x1440, .f32⟩
  | .local _ .vmem, ⟨2, _⟩ => ⟨S16x1440, .f32⟩
  | .local _ .vmem, ⟨3, _⟩ => ⟨S16x1440, .f32⟩
  | .local _ .vmem, ⟨4, _⟩ => ⟨S32x1x1440, .f32⟩
  | .local _ .vmem, ⟨5, _⟩ => ⟨S32x16x1440, .f32⟩
  | .local _ .vmem, ⟨6, _⟩ => ⟨S32x16x1440, .f32⟩
  | .local _ .vmem, ⟨7, _⟩ => ⟨S4x32x16x1440, .f32⟩
  | _, _ => ⟨S32x721x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![45], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_31 : BitVec 32) : Fin 1 → Nat :=
  let c4_i32_32 : BitVec 32 := 4#32
  let v128 : BitVec 32 := Scalar.remsi c0_i32_31 c4_i32_32
  ![v128.toNat]
def k0_off2 (c0_i32_29 : BitVec 32) : Fin 4 → Nat :=
  let c4_i32_30 : BitVec 32 := 4#32
  let v127 : BitVec 32 := Scalar.remsi c0_i32_29 c4_i32_30
  let c0_i32_33 : BitVec 32 := 0#32
  let c0_i32_34 : BitVec 32 := 0#32
  let c0_i32_35 : BitVec 32 := 0#32
  ![v127.toNat, 0, 0, 0]
def k0_cond2 (i : grid0.Coords) : BitVec 1 :=
  let arg0 : BitVec 32 := BitVec.ofNat 32 (i 0).val
  let c3_i32 : BitVec 32 := 3#32
  let v3 : BitVec 32 := Scalar.addi arg0 c3_i32
  let c45_i32 : BitVec 32 := 45#32
  let v4 : BitVec 1 := Scalar.cmpi .slt v3 c45_i32
  let v5 : BitVec 32 := Scalar.extui v4
  let c0_i32_1 : BitVec 32 := 0#32
  let v6 : BitVec 1 := Scalar.cmpi .ne v5 c0_i32_1
  v6

def k0_off3 (i : grid0.Coords) : Fin 1 → Nat :=
  let arg0 : BitVec 32 := BitVec.ofNat 32 (i 0).val
  let c3_i32_29 : BitVec 32 := 3#32
  let v127 : BitVec 32 := Scalar.addi arg0 c3_i32_29
  let c4_i32_31 : BitVec 32 := 4#32
  let v130 : BitVec 32 := Scalar.remsi v127 c4_i32_31
  ![v130.toNat]
def k0_off4 (i : grid0.Coords) : Fin 4 → Nat :=
  let arg0 : BitVec 32 := BitVec.ofNat 32 (i 0).val
  let c3_i32_29 : BitVec 32 := 3#32
  let v127 : BitVec 32 := Scalar.addi arg0 c3_i32_29
  let c4_i32_30 : BitVec 32 := 4#32
  let v129 : BitVec 32 := Scalar.remsi v127 c4_i32_30
  let c0_i32_32 : BitVec 32 := 0#32
  let c0_i32_33 : BitVec 32 := 0#32
  let c0_i32_34 : BitVec 32 := 0#32
  ![v129.toNat, 0, 0, 0]
def k0_off5 (i : grid0.Coords) : Fin 3 → Nat :=
  let c0_i32_35 : BitVec 32 := 0#32
  let arg0 : BitVec 32 := BitVec.ofNat 32 (i 0).val
  let c3_i32_29 : BitVec 32 := 3#32
  let v127 : BitVec 32 := Scalar.addi arg0 c3_i32_29
  let c16_i32 : BitVec 32 := 16#32
  let v128 : BitVec 32 := Scalar.muli v127 c16_i32
  let c0_i32_36 : BitVec 32 := 0#32
  ![0, v128.toNat, 0]
def k0_cond3 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k0_off6 : Fin 1 → Nat :=
  let c0_i32_31 : BitVec 32 := 0#32
  let c4_i32_32 : BitVec 32 := 4#32
  let v128 : BitVec 32 := Scalar.remsi c0_i32_31 c4_i32_32
  ![v128.toNat]
def k0_off7 : Fin 4 → Nat :=
  let c0_i32_29 : BitVec 32 := 0#32
  let c4_i32_30 : BitVec 32 := 4#32
  let v127 : BitVec 32 := Scalar.remsi c0_i32_29 c4_i32_30
  let c0_i32_33 : BitVec 32 := 0#32
  let c0_i32_34 : BitVec 32 := 0#32
  let c0_i32_35 : BitVec 32 := 0#32
  ![v127.toNat, 0, 0, 0]
def k0_cond4 (i : grid0.Coords) : BitVec 1 :=
  let arg0 : BitVec 32 := BitVec.ofNat 32 (i 0).val
  let c1_i32 : BitVec 32 := 1#32
  let v57 : BitVec 32 := Scalar.addi arg0 c1_i32
  let c45_i32_11 : BitVec 32 := 45#32
  let v58 : BitVec 1 := Scalar.cmpi .slt v57 c45_i32_11
  let v59 : BitVec 32 := Scalar.extui v58
  let c0_i32_12 : BitVec 32 := 0#32
  let v60 : BitVec 1 := Scalar.cmpi .ne v59 c0_i32_12
  v60

def k0_off8 (i : grid0.Coords) : Fin 1 → Nat :=
  let arg0 : BitVec 32 := BitVec.ofNat 32 (i 0).val
  let c1_i32_29 : BitVec 32 := 1#32
  let v127 : BitVec 32 := Scalar.addi arg0 c1_i32_29
  let c4_i32_31 : BitVec 32 := 4#32
  let v130 : BitVec 32 := Scalar.remsi v127 c4_i32_31
  ![v130.toNat]
def k0_off9 (i : grid0.Coords) : Fin 4 → Nat :=
  let arg0 : BitVec 32 := BitVec.ofNat 32 (i 0).val
  let c1_i32_29 : BitVec 32 := 1#32
  let v127 : BitVec 32 := Scalar.addi arg0 c1_i32_29
  let c4_i32_30 : BitVec 32 := 4#32
  let v129 : BitVec 32 := Scalar.remsi v127 c4_i32_30
  let c0_i32_32 : BitVec 32 := 0#32
  let c0_i32_33 : BitVec 32 := 0#32
  let c0_i32_34 : BitVec 32 := 0#32
  ![v129.toNat, 0, 0, 0]
def k0_off10 (i : grid0.Coords) : Fin 3 → Nat :=
  let c0_i32_35 : BitVec 32 := 0#32
  let arg0 : BitVec 32 := BitVec.ofNat 32 (i 0).val
  let c1_i32_29 : BitVec 32 := 1#32
  let v127 : BitVec 32 := Scalar.addi arg0 c1_i32_29
  let c16_i32 : BitVec 32 := 16#32
  let v128 : BitVec 32 := Scalar.muli v127 c16_i32
  let c0_i32_36 : BitVec 32 := 0#32
  ![0, v128.toNat, 0]
def k0_off11 (i : grid0.Coords) : Fin 4 → Nat :=
  let arg0 : BitVec 32 := BitVec.ofNat 32 (i 0).val
  let c4_i32 : BitVec 32 := 4#32
  let v70 : BitVec 32 := Scalar.remsi arg0 c4_i32
  let v71 : Index := Scalar.indexCast v70
  let c0_13 : Index := 0#32
  let c0_14 : Index := 0#32
  let c0_15 : Index := 0#32
  ![v71.toNat, 0, 0, 0]
def k0_off12 (i : grid0.Coords) : Fin 4 → Nat :=
  let arg0 : BitVec 32 := BitVec.ofNat 32 (i 0).val
  let c1_i32_16 : BitVec 32 := 1#32
  let v75 : BitVec 32 := Scalar.addi arg0 c1_i32_16
  let c4_i32_17 : BitVec 32 := 4#32
  let v76 : BitVec 32 := Scalar.remsi v75 c4_i32_17
  let v77 : Index := Scalar.indexCast v76
  let c0_18 : Index := 0#32
  let c0_19 : Index := 0#32
  let c0_20 : Index := 0#32
  ![v77.toNat, 0, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x1440 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1440 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1x1440 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x16x1440 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x721x1440 : Shape := ⟨3, ![32, 721, 1440]⟩
abbrev S720x1440 : Shape := ⟨2, ![720, 1440]⟩
abbrev S_ : Shape := ⟨0, ![]⟩
abbrev S720x1440x1 : Shape := ⟨3, ![720, 1440, 1]⟩
abbrev S720x1440x2 : Shape := ⟨3, ![720, 1440, 2]⟩
abbrev S32x720x1440 : Shape := ⟨3, ![32, 720, 1440]⟩
abbrev S1x720x1440 : Shape := ⟨3, ![1, 720, 1440]⟩

abbrev nBuf : Space → Nat
  | .hbm => 120
  | .vmem => 0
  | .smem => 0
  | _ => 0

abbrev bufTy : (tb : Table) → Fin (tcTables nBuf tb) → BufTy
  | .hbm, ⟨0, _⟩ => ⟨S32x721x1440, .f32⟩
  | .hbm, ⟨1, _⟩ => ⟨S720x1440, .f32⟩
  | .hbm, ⟨2, _⟩ => ⟨S720x1440, .f32⟩
  | .hbm, ⟨3, _⟩ => ⟨S720x1440, .f32⟩
  | .hbm, ⟨4, _⟩ => ⟨S720x1440, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S720x1440, .i32⟩
  | .hbm, ⟨9, _⟩ => ⟨S720x1440, .i32⟩
  | .hbm, ⟨10, _⟩ => ⟨S_, .i32⟩
  | .hbm, ⟨11, _⟩ => ⟨S720x1440, .i32⟩
  | .hbm, ⟨12, _⟩ => ⟨S720x1440, .i32⟩
  | .hbm, ⟨13, _⟩ => ⟨S_, .i32⟩
  | .hbm, ⟨14, _⟩ => ⟨S720x1440, .i32⟩
  | .hbm, ⟨15, _⟩ => ⟨S720x1440, .i32⟩
  | .hbm, ⟨16, _⟩ => ⟨S720x1440, .f32⟩
  | .hbm, ⟨17, _⟩ => ⟨S720x1440, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S720x1440, .i32⟩
  | .hbm, ⟨22, _⟩ => ⟨S720x1440, .i32⟩
  | .hbm, ⟨23, _⟩ => ⟨S_, .i32⟩
  | .hbm, ⟨24, _⟩ => ⟨S720x1440, .i32⟩
  | .hbm, ⟨25, _⟩ => ⟨S720x1440, .i32⟩
  | .hbm, ⟨26, _⟩ => ⟨S_, .i32⟩
  | .hbm, ⟨27, _⟩ => ⟨S720x1440, .i32⟩
  | .hbm, ⟨28, _⟩ => ⟨S720x1440, .i32⟩
  | .hbm, ⟨29, _⟩ => ⟨S_, .i32⟩
  | .hbm, ⟨30, _⟩ => ⟨S720x1440, .i32⟩
  | .hbm, ⟨31, _⟩ => ⟨S720x1440, .i1⟩
  | .hbm, ⟨32, _⟩ => ⟨S_, .i32⟩
  | .hbm, ⟨33, _⟩ => ⟨S720x1440, .i32⟩
  | .hbm, ⟨34, _⟩ => ⟨S720x1440, .i32⟩
  | .hbm, ⟨35, _⟩ => ⟨S720x1440, .i32⟩
  | .hbm, ⟨36, _⟩ => ⟨S_, .i32⟩
  | .hbm, ⟨37, _⟩ => ⟨S720x1440, .i32⟩
  | .hbm, ⟨38, _⟩ => ⟨S720x1440, .i1⟩
  | .hbm, ⟨39, _⟩ => ⟨S_, .i32⟩
  | .hbm, ⟨40, _⟩ => ⟨S720x1440, .i32⟩
  | .hbm, ⟨41, _⟩ => ⟨S720x1440, .i32⟩
  | .hbm, ⟨42, _⟩ => ⟨S720x1440, .i32⟩
  | .hbm, ⟨43, _⟩ => ⟨S720x1440x1, .i32⟩
  | .hbm, ⟨44, _⟩ => ⟨S720x1440x1, .i32⟩
  | .hbm, ⟨45, _⟩ => ⟨S720x1440x2, .i32⟩
  | .hbm, ⟨46, _⟩ => ⟨S32x720x1440, .f32⟩
  | .hbm, ⟨47, _⟩ => ⟨S_, .i32⟩
  | .hbm, ⟨48, _⟩ => ⟨S720x1440, .i32⟩
  | .hbm, ⟨49, _⟩ => ⟨S720x1440, .i1⟩
  | .hbm, ⟨50, _⟩ => ⟨S_, .i32⟩
  | .hbm, ⟨51, _⟩ => ⟨S720x1440, .i32⟩
  | .hbm, ⟨52, _⟩ => ⟨S720x1440, .i32⟩
  | .hbm, ⟨53, _⟩ => ⟨S720x1440, .i32⟩
  | .hbm, ⟨54, _⟩ => ⟨S_, .i32⟩
  | .hbm, ⟨55, _⟩ => ⟨S720x1440, .i32⟩
  | .hbm, ⟨56, _⟩ => ⟨S720x1440, .i1⟩
  | .hbm, ⟨57, _⟩ => ⟨S_, .i32⟩
  | .hbm, ⟨58, _⟩ => ⟨S720x1440, .i32⟩
  | .hbm, ⟨59, _⟩ => ⟨S720x1440, .i32⟩
  | .hbm, ⟨60, _⟩ => ⟨S720x1440, .i32⟩
  | .hbm, ⟨61, _⟩ => ⟨S720x1440x1, .i32⟩
  | .hbm, ⟨62, _⟩ => ⟨S720x1440x1, .i32⟩
  | .hbm, ⟨63, _⟩ => ⟨S720x1440x2, .i32⟩
  | .hbm, ⟨64, _⟩ => ⟨S32x720x1440, .f32⟩
  | .hbm, ⟨65, _⟩ => ⟨S_, .i32⟩
  | .hbm, ⟨66, _⟩ => ⟨S720x1440, .i32⟩
  | .hbm, ⟨67, _⟩ => ⟨S720x1440, .i1⟩
  | .hbm, ⟨68, _⟩ => ⟨S_, .i32⟩
  | .hbm, ⟨69, _⟩ => ⟨S720x1440, .i32⟩
  | .hbm, ⟨70, _⟩ => ⟨S720x1440, .i32⟩
  | .hbm, ⟨71, _⟩ => ⟨S720x1440, .i32⟩
  | .hbm, ⟨72, _⟩ => ⟨S_, .i32⟩
  | .hbm, ⟨73, _⟩ => ⟨S720x1440, .i32⟩
  | .hbm, ⟨74, _⟩ => ⟨S720x1440, .i1⟩
  | .hbm, ⟨75, _⟩ => ⟨S_, .i32⟩
  | .hbm, ⟨76, _⟩ => ⟨S720x1440, .i32⟩
  | .hbm, ⟨77, _⟩ => ⟨S720x1440, .i32⟩
  | .hbm, ⟨78, _⟩ => ⟨S720x1440, .i32⟩
  | .hbm, ⟨79, _⟩ => ⟨S720x1440x1, .i32⟩
  | .hbm, ⟨80, _⟩ => ⟨S720x1440x1, .i32⟩
  | .hbm, ⟨81, _⟩ => ⟨S720x1440x2, .i32⟩
  | .hbm, ⟨82, _⟩ => ⟨S32x720x1440, .f32⟩
  | .hbm, ⟨83, _⟩ => ⟨S_, .i32⟩
  | .hbm, ⟨84, _⟩ => ⟨S720x1440, .i32⟩
  | .hbm, ⟨85, _⟩ => ⟨S720x1440, .i1⟩
  | .hbm, ⟨86, _⟩ => ⟨S_, .i32⟩
  | .hbm, ⟨87, _⟩ => ⟨S720x1440, .i32⟩
  | .hbm, ⟨88, _⟩ => ⟨S720x1440, .i32⟩
  | .hbm, ⟨89, _⟩ => ⟨S720x1440, .i32⟩
  | .hbm, ⟨90, _⟩ => ⟨S_, .i32⟩
  | .hbm, ⟨91, _⟩ => ⟨S720x1440, .i32⟩
  | .hbm, ⟨92, _⟩ => ⟨S720x1440, .i1⟩
  | .hbm, ⟨93, _⟩ => ⟨S_, .i32⟩
  | .hbm, ⟨94, _⟩ => ⟨S720x1440, .i32⟩
  | .hbm, ⟨95, _⟩ => ⟨S720x1440, .i32⟩
  | .hbm, ⟨96, _⟩ => ⟨S720x1440, .i32⟩
  | .hbm, ⟨97, _⟩ => ⟨S720x1440x1, .i32⟩
  | .hbm, ⟨98, _⟩ => ⟨S720x1440x1, .i32⟩
  | .hbm, ⟨99, _⟩ => ⟨S720x1440x2, .i32⟩
  | .hbm, ⟨100, _⟩ => ⟨S32x720x1440, .f32⟩
  | .hbm, ⟨101, _⟩ => ⟨S720x1440, .f32⟩
  | .hbm, ⟨102, _⟩ => ⟨S720x1440, .f32⟩
  | .hbm, ⟨103, _⟩ => ⟨S720x1440, .f32⟩
  | .hbm, ⟨104, _⟩ => ⟨S720x1440, .f32⟩
  | .hbm, ⟨105, _⟩ => ⟨S32x720x1440, .f32⟩
  | .hbm, ⟨106, _⟩ => ⟨S1x720x1440, .f32⟩
  | .hbm, ⟨107, _⟩ => ⟨S32x720x1440, .f32⟩
  | .hbm, ⟨108, _⟩ => ⟨S32x720x1440, .f32⟩
  | .hbm, ⟨109, _⟩ => ⟨S32x720x1440, .f32⟩
  | .hbm, ⟨110, _⟩ => ⟨S32x720x1440, .f32⟩
  | .hbm, ⟨111, _⟩ => ⟨S1x720x1440, .f32⟩
  | .hbm, ⟨112, _⟩ => ⟨S32x720x1440, .f32⟩
  | .hbm, ⟨113, _⟩ => ⟨S32x720x1440, .f32⟩
  | .hbm, ⟨114, _⟩ => ⟨S32x720x1440, .f32⟩
  | .hbm, ⟨115, _⟩ => ⟨S32x720x1440, .f32⟩
  | .hbm, ⟨116, _⟩ => ⟨S1x720x1440, .f32⟩
  | .hbm, ⟨117, _⟩ => ⟨S32x720x1440, .f32⟩
  | .hbm, ⟨118, _⟩ => ⟨S32x720x1440, .f32⟩
  | .hbm, ⟨119, _⟩ => ⟨S32x720x1440, .f32⟩
  | _, _ => ⟨S32x721x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_c_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v7 : Ref sig .tc := ⟨.hbm, 25, rfl⟩
abbrev main_c_4 : Ref sig .tc := ⟨.hbm, 26, rfl⟩
abbrev main_v8 : Ref sig .tc := ⟨.hbm, 27, rfl⟩
abbrev main_v9 : Ref sig .tc := ⟨.hbm, 28, rfl⟩
abbrev main_c_5 : Ref sig .tc := ⟨.hbm, 29, rfl⟩
abbrev main_v10 : Ref sig .tc := ⟨.hbm, 30, rfl⟩
abbrev main_v11 : Ref sig .tc := ⟨.hbm, 31, rfl⟩
abbrev main_c_6 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_7 : Ref sig .tc := ⟨.hbm, 36, rfl⟩
abbrev main_v15 : Ref sig .tc := ⟨.hbm, 37, rfl⟩
abbrev main_v16 : Ref sig .tc := ⟨.hbm, 38, rfl⟩
abbrev main_c_8 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_9 : Ref sig .tc := ⟨.hbm, 47, rfl⟩
abbrev main_v24 : Ref sig .tc := ⟨.hbm, 48, rfl⟩
abbrev main_v25 : Ref sig .tc := ⟨.hbm, 49, rfl⟩
abbrev main_c_10 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_11 : Ref sig .tc := ⟨.hbm, 54, rfl⟩
abbrev main_v29 : Ref sig .tc := ⟨.hbm, 55, rfl⟩
abbrev main_v30 : Ref sig .tc := ⟨.hbm, 56, rfl⟩
abbrev main_c_12 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_13 : Ref sig .tc := ⟨.hbm, 65, rfl⟩
abbrev main_v38 : Ref sig .tc := ⟨.hbm, 66, rfl⟩
abbrev main_v39 : Ref sig .tc := ⟨.hbm, 67, rfl⟩
abbrev main_c_14 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_15 : Ref sig .tc := ⟨.hbm, 72, rfl⟩
abbrev main_v43 : Ref sig .tc := ⟨.hbm, 73, rfl⟩
abbrev main_v44 : Ref sig .tc := ⟨.hbm, 74, rfl⟩
abbrev main_c_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_17 : Ref sig .tc := ⟨.hbm, 83, rfl⟩
abbrev main_v52 : Ref sig .tc := ⟨.hbm, 84, rfl⟩
abbrev main_v53 : Ref sig .tc := ⟨.hbm, 85, rfl⟩
abbrev main_c_18 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_19 : Ref sig .tc := ⟨.hbm, 90, rfl⟩
abbrev main_v57 : Ref sig .tc := ⟨.hbm, 91, rfl⟩
abbrev main_v58 : Ref sig .tc := ⟨.hbm, 92, rfl⟩
abbrev main_c_20 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== Proof.Setup.lean ====
/- What the launch hands the kernel's one region: @main up to it, the arrays as the region finds them, the blocks its
   windows read, the conditions of the body's branches as statements about the grid point, and the resources the body
   takes besides its windows: the slab scratch, its four DMA cells, and the field array left in HBM. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Ring.AtN
public import Idealize.ShloMosaic.Lib.Tactic
public import Idealize.ShloMosaic.Lib.WordCmp

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s buffers when the region is entered: after the one host operation, which cuts the field's last row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main is the host operation and then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer other than the cut row's is, when the region is entered, as launched. -/
theorem V_kept (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

theorem V_arg0 (c : Dev nD) : V m c main_arg0 = m ((c : Thread nD τ).loc main_arg0) := V_kept m c main_arg0 (by decide)
theorem V_arg1 (c : Dev nD) : V m c main_arg1 = m ((c : Thread nD τ).loc main_arg1) := V_kept m c main_arg1 (by decide)
theorem V_arg2 (c : Dev nD) : V m c main_arg2 = m ((c : Thread nD τ).loc main_arg2) := V_kept m c main_arg2 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three input windows' staging buffers hold their blocks at every point, for any proof data over `V`'s arrays whose
    body leaves the blocks in place. -/
theorem before_in0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]) t d).trans
    (by unfold Dat.fetched Dat.blockOf iblk; rw [hA]; rfl)
theorem before_in1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]) t d).trans
    (by unfold Dat.fetched Dat.blockOf iblk; rw [hA]; rfl)
theorem before_in2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]) t d).trans
    (by unfold Dat.fetched Dat.blockOf iblk; rw [hA]; rfl)

/-! ## The conditions of the body's branches, as statements about the point -/

abbrev first1 (i : grid0.Coords) : Prop := k0_cond1 i = 1#1
abbrev ahead (i : grid0.Coords) : Prop := k0_cond2 i = 1#1
abbrev first2 (i : grid0.Coords) : Prop := k0_cond3 i = 1#1
abbrev more (i : grid0.Coords) : Prop := k0_cond4 i = 1#1

/-- The body primes the ring at the first point only; it starts a slab three ahead before point 42; it collects the next
    point's slab before point 44. -/
theorem conds : ∀ t : Fin cfg0.N, (first1 (grid0.coords t) ↔ t.val = 0) ∧ (ahead (grid0.coords t) ↔ t.val < 42)
    ∧ (first2 (grid0.coords t) ↔ t.val = 0) ∧ (more (grid0.coords t) ↔ t.val < 44) :=
  (by decide +kernel : ∀ t : Fin grid0.N, (first1 (grid0.coords t) ↔ t.val = 0) ∧ (ahead (grid0.coords t) ↔ t.val < 42)
    ∧ (first2 (grid0.coords t) ↔ t.val = 0) ∧ (more (grid0.coords t) ↔ t.val < 44))

/-! ## What the body works on -/

/-- One staging buffer of the output window, through which what the body leaves there is stated. -/
abbrev VO : View sig .tc .vmem S32x16x1440 .f32 := (Memref.whole cc0_stg3_0 : Memref sig .tc .vmem S32x16x1440 .f32).view
/-- Each window's current staging memref at point `t`, and its wholeness. -/
abbrev ms0 (t : Fin cfg0.N) : Memref sig .tc .vmem S16x1440 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x1440 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x1x1440 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x16x1440 .f32 := win0_3.stage (cfg0.slots t 3)
abbrev hs3 (t : Fin cfg0.N) : (ms3 t).IsWhole := hstage0_3 ((cfg0.slots t 3).cast nbuf0_3)
/-- The slab scratch, whole. -/
abbrev slabs : Memref sig .tc .vmem S4x32x16x1440 .f32 := Memref.whole cc0_scratch0
/-- The field array left in HBM, whole. -/
abbrev field : Memref sig .tc .hbm S32x721x1440 .f32 := Memref.whole main_arg0
/-- Memref `M`'s buffer on core `c`: its contents' type, and the buffer held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's own four DMA cells, by their numbers in the pool. -/
abbrev osem : Fin 4 → SemLoc sig := fun j => (![SemLoc.dma 7, SemLoc.dma 8, SemLoc.dma 9, SemLoc.dma 10] : Fin 4 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem [0, 1, 2, 3] (by decide) (by decide)]; rfl
/-- The one HBM operand that the body moves itself. -/
def HB : Finset (Ref sig .tc) := {main_arg0}
theorem HB_sub : HB ⊆ Pipeline.restRefs sig spec0 := by decide
theorem hbPts_eq (c : Dev nD) :
    (bigSep HB (fun b => ((c : Thread nD τ).loc b) ↦{fullShare} V m c b) : sProp 𝕄) = iprop(hbPt c field (V m c main_arg0)) := by
  rw [BI.bigSep_eq_bigSepL_of_eq [main_arg0] (by decide) (by decide)]; rfl

/-- What the launch lends the body, part by part: the scratch at anything, the generator register, the four cells at zero,
    the field as the region finds it. -/
theorem lent_eq (c : Dev nD) :
    (Pipeline.ΦD osem spec0 HB (V m) c : sProp 𝕄)
      = iprop(iprop((∃ d, owns (c : Thread nD τ) slabs fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt c field (V m c main_arg0))) := by
  rw [Pipeline.ΦD_eq, scopedRest0_eq, ownSems_eq, hbPts_eq]; simp only [slabs, owns_whole]; rfl

end Cert.KernelIdeal.Stream

end
-- ==== Proof.Ring.lean ====
/- The ring of four slabs: the field streams through the four slots of the scratch, block `b` through slot `b % 4`, a
   transfer started three points ahead and collected one point ahead. What each slot holds between points, how the
   launch's resources become the ring and come back, and the body's memrefs named as the ring's slots, blocks and cells. -/
module

public import proofs.«01_k».proof.Proof.Setup

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

instance : NeZero grid0.N := ⟨by rw [N_0]; decide⟩

/-! ## Slots, blocks and cells -/

theorem inb_slot (s : Fin 4) : ∀ a, (![s.val, 0, 0, 0] : Fin 4 → Nat) a + S1x32x16x1440.size a ≤ S4x32x16x1440.size a := by
  have := s.isLt; intro a; fin_cases a <;> simp <;> omega
theorem inb_block (b : Fin 45) : ∀ a, (![0, 16 * b.val, 0] : Fin 3 → Nat) a + S32x16x1440.size a ≤ S32x721x1440.size a := by
  have := b.isLt; intro a; fin_cases a <;> simp <;> omega
theorem inb_cell (s : Fin 4) : ∀ a, (![s.val] : Fin 1 → Nat) a + S1.size a ≤ S4.size a := by
  have := s.isLt; intro a; fin_cases a <;> simp <;> omega

/-- Slot `s` of the scratch, as the transfers name their destination. -/
def slot (s : Fin 4) : Memref sig .tc .vmem S32x16x1440 .f32 :=
  (slabs.slice (Rect.unit (s := S4x32x16x1440) ![s.val, 0, 0, 0] S1x32x16x1440.size (inb_slot s)) (fun _ => rfl)).squeeze S32x16x1440 squeezes_S1x32x16x1440_S32x16x1440
/-- Block `b` of the field (its rows `16 b` to `16 b + 15`), as the transfers name their source. -/
def block (b : Fin 45) : Memref sig .tc .hbm S32x16x1440 .f32 :=
  field.slice (Rect.unit (s := S32x721x1440) ![0, 16 * b.val, 0] S32x16x1440.size (inb_block b)) (fun _ => rfl)
/-- Cell `s` of the ring's four. -/
def cell (s : Fin 4) : DmaSems sig S_ := (cc0_scratch1.slice (Rect.unit (s := S4) ![s.val] S1.size (inb_cell s))).squeeze S_ squeezes_S1_S_
abbrev cellLoc (s : Fin 4) : SemLoc sig := SemLoc.dma (cell s).sem
theorem cellLoc_eq : ∀ s, cellLoc s = osem s := by decide

section Families
variable (c : Dev nD) (W : HbBuf (F := F) c field)

/-- Each slot has a read share of the field of its own, so that whatever transfers are in flight each borrows from its slot's. -/
abbrev share (s : Fin 4) : PosShare TreeShare := if s.val = 0 then fullShare.left else if s.val = 1 then fullShare.right.left else if s.val = 2 then fullShare.right.right.left else fullShare.right.right.right
/-- Slot `s` held at `f`. -/
abbrev slotP (s : Fin 4) (f : HbBuf (F := F) c (slot s)) : sProp 𝕄 := (slot s).view.loc (c : Thread nD τ) ↦[(slot s).view.set]{fullShare} f
/-- Cell `s` at zero. -/
abbrev cellP (s : Fin 4) : sProp 𝕄 := semVal ((c : Thread nD τ), cellLoc s) 0
/-- Block `b`'s elements in slot `s`'s share of the field, -/
abbrev lentP (s : Fin 4) (b : Fin 45) : sProp 𝕄 := (block b).view.loc (c : Thread nD τ) ↦[(block b).view.set]{share s} W
/-- the rest of that share, -/
def restP (s : Fin 4) (b : Fin 45) : sProp 𝕄 := ((c : Thread nD τ).loc main_arg0) ↦[Finset.univ \ (block b).view.set]{share s} W
/-- and the share whole. -/
abbrev wholeP (s : Fin 4) : sProp 𝕄 := ((c : Thread nD τ).loc main_arg0) ↦[Finset.univ]{share s} W
/-- Slot `s`'s contents once block `b` has landed in it over `f`. -/
abbrev landed (s : Fin 4) (b : Fin 45) (f : HbBuf (F := F) c (slot s)) : HbBuf (F := F) c (slot s) :=
  (slot s).view.writes (Elt F) f [⟨Rect.whole S32x16x1440, ReadAs.same.apply ((block b).view.read (Elt F) W)⟩]
/-- A slot at rest at `f`, with its share of the field whole. -/
abbrev slotW (s : Fin 4) (f : HbBuf (F := F) c (slot s)) : sProp 𝕄 := iprop(slotP c s f ∗ wholeP c W s)
/-- Block `b` under way into slot `s`: the transfer, which will deliver the slot landed and the lent elements back, and the
    rest of the share. -/
abbrev flightW (s : Fin 4) (b : Fin 45) (f : HbBuf (F := F) c (slot s)) : sProp 𝕄 :=
  iprop(Transfers.Flight countersEmb (c : Thread nD τ) (cellLoc s) default ((slot s).view.amount (cellLoc s))
    iprop(slotP c s (landed c W s b f) ∗ lentP c W s b) ∗ restP c W s b)

/-- Slot `s` free: at anything, its cell at zero. -/
abbrev Free (s : Fin 4) : sProp 𝕄 := Ring.free (cellP c) (slotW c W) s
/-- Slot `s` with block `b` under way. -/
abbrev Coming (s : Fin 4) (b : Fin 45) : sProp 𝕄 := Ring.inflight (flightW c W) s b
/-- Slot `s` with block `b` landed. -/
abbrev Landed (s : Fin 4) (b : Fin 45) : sProp 𝕄 := Ring.kept (cellP c) (slotW c W) (landed c W) s b

/-- Block `k`'s slot before it is collected, if there is such a block; -/
def coming (k : ℕ) : sProp 𝕄 := if k < 45 then Coming c W (Ring.sl 4 k) (Ring.bk 45 k) else Free c W (Ring.sl 4 k)
/-- and after. -/
def here (k : ℕ) : sProp 𝕄 := if k < 45 then Landed c W (Ring.sl 4 k) (Ring.bk 45 k) else Free c W (Ring.sl 4 k)

/-- The ring before point `k`: all four slots free before the first; from then on slab `k` landed, slabs `k + 1` and
    `k + 2` under way, the fourth slot free. -/
def ring (k : ℕ) : sProp 𝕄 :=
  if k = 0 then iprop(Free c W 0 ∗ Free c W 1 ∗ Free c W 2 ∗ Free c W 3)
  else iprop(here c W k ∗ coming c W (k + 1) ∗ coming c W (k + 2) ∗ Free c W (Ring.sl 4 (k + 3)))

omit [FloatOps F] in
theorem cellP_eq (s : Fin 4) : cellP (F := F) c s = semVal ((c : Thread nD τ), osem s) 0 :=
  congrArg (fun x => (semVal ((c : Thread nD τ), x) 0 : sProp 𝕄)) (cellLoc_eq s)

end Families

/-! ## The four slots are the scratch, disjointly -/

abbrev slotSet (s : Fin 4) : Finset S4x32x16x1440.Idx := (Rect.unit (s := S4x32x16x1440) ![s.val, 0, 0, 0] S1x32x16x1440.size (inb_slot s)).set
theorem slotSet_eq (s : Fin 4) : (slot s).view.set = slotSet s := by
  simp only [slot, Memref.view_squeeze, View.set_reshape]; exact View.set_slice_whole _ _
theorem slots_disjoint (s s' : Fin 4) (h : s ≠ s') : Disjoint (slotSet s) (slotSet s') :=
  Ring.lead_disjoint (s := S4x32x16x1440) (0 : Fin 4) 1 (fun s : Fin 4 => (![s.val, 0, 0, 0] : Fin 4 → Nat)) S1x32x16x1440.size inb_slot (fun s => by simp) rfl s s' h
theorem slots_cover : Finset.univ.biUnion slotSet = Finset.univ :=
  Ring.lead_cover (s := S4x32x16x1440) (0 : Fin 4) 1 (fun s : Fin 4 => (![s.val, 0, 0, 0] : Fin 4 → Nat)) S1x32x16x1440.size inb_slot (fun s => by simp)
    (fun s a ha => by fin_cases a <;> first | exact absurd rfl ha | rfl) rfl (fun a ha => by fin_cases a <;> first | exact absurd rfl ha | rfl) rfl

/-! ## What the launch hands the ring, and takes back -/

section InOut
variable (c : Dev nD) (W : HbBuf (F := F) c field)

theorem slotP_eq (s : Fin 4) (f) : slotP (F := F) c s f = (((c : Thread nD τ).loc cc0_scratch0) ↦[slotSet s]{fullShare} f : sProp 𝕄) := by
  unfold slotP; rw [slotSet_eq]; rfl
/-- A share of the field whole is a block's elements of it and the rest. -/
theorem share_split (s : Fin 4) (b : Fin 45) : wholeP (F := F) c W s ⊣⊢ iprop(lentP c W s b ∗ restP c W s b) := by
  unfold restP; exact pointsTo_split_subset (Finset.subset_univ _)
/-- The field whole is the four slots' shares of it. -/
theorem field_split : (hbPt c field W : sProp 𝕄) ⊣⊢ iprop(wholeP c W 0 ∗ wholeP c W 1 ∗ wholeP c W 2 ∗ wholeP c W 3) :=
  ⟨(pointsTo_share (PosShare.mem_left_op_right fullShare)).1.trans (sep_mono .rfl ((pointsTo_share (PosShare.mem_left_op_right fullShare.right)).1.trans
      (sep_mono .rfl (pointsTo_share (PosShare.mem_left_op_right fullShare.right.right)).1))),
   (sep_mono .rfl ((sep_mono .rfl (pointsTo_share (PosShare.mem_left_op_right fullShare.right.right)).2).trans
      (pointsTo_share (PosShare.mem_left_op_right fullShare.right)).2)).trans (pointsTo_share (PosShare.mem_left_op_right fullShare)).2⟩

set_option maxHeartbeats 1000000 in
/-- The scratch at anything is its slots at something each, -/
theorem slots_in : iprop(∃ d, owns (c : Thread nD τ) slabs fullShare d) ⊢ (iprop((∃ f, slotP (F := F) c 0 f) ∗ (∃ f, slotP (F := F) c 1 f) ∗ (∃ f, slotP (F := F) c 2 f) ∗ ∃ f, slotP (F := F) c 3 f) : sProp 𝕄) := by
  simp only [slabs, owns_whole]
  exact Ring.slots4_split (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)
set_option maxHeartbeats 1000000 in
/-- and back. -/
theorem slots_out : (iprop((∃ f, slotP (F := F) c 0 f) ∗ (∃ f, slotP (F := F) c 1 f) ∗ (∃ f, slotP (F := F) c 2 f) ∗ ∃ f, slotP (F := F) c 3 f) : sProp 𝕄) ⊢ iprop(∃ d, owns (c : Thread nD τ) slabs fullShare d) := by
  simp only [slabs, owns_whole]
  exact Ring.slots4_join (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)

/-- The launch's resources are four free slots, -/
theorem free_in :
    iprop((∃ d, owns (c : Thread nD τ) slabs fullShare d) ∗ (semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ hbPt c field W)
      ⊢ (iprop(Free c W 0 ∗ Free c W 1 ∗ Free c W 2 ∗ Free c W 3) : sProp 𝕄) := by
  unfold Free Ring.free; simp only [cellP_eq]
  iintro ⟨HS, ⟨H0, H1, H2, H3⟩, HW⟩
  ihave HS' := (slots_in (F := F) c) $$ HS
  icases HS' with ⟨⟨%d0, HS0⟩, ⟨%d1, HS1⟩, ⟨%d2, HS2⟩, ⟨%d3, HS3⟩⟩
  ihave HW' := (field_split (F := F) c W).1 $$ HW
  icases HW' with ⟨HW0, HW1, HW2, HW3⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  isplitl [H2 HS2 HW2]
  · isplitl [H2]; · iexact H2
    iexists d2; isplitl [HS2]; · iexact HS2
    iexact HW2
  isplitl [H3]; · iexact H3
  iexists d3; isplitl [HS3]; · iexact HS3
  iexact HW3
/-- and four free slots are the launch's resources. -/
theorem free_out : (iprop(Free c W 0 ∗ Free c W 1 ∗ Free c W 2 ∗ Free c W 3) : sProp 𝕄)
      ⊢ iprop((∃ d, owns (c : Thread nD τ) slabs fullShare d) ∗ (semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ hbPt c field W) := by
  unfold Free Ring.free; simp only [cellP_eq]
  iintro ⟨⟨H0, ⟨%f0, HS0, HW0⟩⟩, ⟨H1, ⟨%f1, HS1, HW1⟩⟩, ⟨H2, ⟨%f2, HS2, HW2⟩⟩, ⟨H3, ⟨%f3, HS3, HW3⟩⟩⟩
  isplitl [HS0 HS1 HS2 HS3]
  · iapply (slots_out (F := F) c); isplitl [HS0]; · iexists f0; iexact HS0
    isplitl [HS1]; · iexists f1; iexact HS1
    isplitl [HS2]; · iexists f2; iexact HS2
    iexists f3; iexact HS3
  isplitl [H0 H1 H2 H3]
  · isplitl [H0]; · iexact H0
    isplitl [H1]; · iexact H1
    isplitl [H2]; · iexact H2
    iexact H3
  · iapply (field_split (F := F) c W).2; isplitl [HW0]; · iexact HW0
    isplitl [HW1]; · iexact HW1
    isplitl [HW2]; · iexact HW2
    iexact HW3

/-- The ring before the first point is four free slots; -/
theorem ring_first : ring (F := F) c W 0 = iprop(Free c W 0 ∗ Free c W 1 ∗ Free c W 2 ∗ Free c W 3) := if_pos rfl
/-- after the last it is again, in another order. -/
theorem ring_last : ring (F := F) c W 45 ⊢ iprop(Free c W 0 ∗ Free c W 1 ∗ Free c W 2 ∗ Free c W 3) := by
  unfold ring here coming
  rw [if_neg (by decide), if_neg (by decide), if_neg (by decide), if_neg (by decide)]
  rw [show Ring.sl 4 45 = 1 from rfl, show Ring.sl 4 (45 + 1) = 2 from rfl, show Ring.sl 4 (45 + 2) = 3 from rfl, show Ring.sl 4 (45 + 3) = 0 from rfl]
  iintro ⟨H1, H2, H3, H0⟩
  isplitl [H0]; · iexact H0
  isplitl [H1]; · iexact H1
  isplitl [H2]; · iexact H2
  iexact H3

end InOut

/-! ## The body's memrefs are the ring's slots, blocks and cells -/

section Names
omit [FloatOps F]

/-- A box of the scratch at slot `s`'s offsets is slot `s`; -/
theorem slot_of {o : Fin 4 → Nat} {s : Fin 4} (ho : o = ![s.val, 0, 0, 0]) (h : ∀ a, o a + S1x32x16x1440.size a ≤ S4x32x16x1440.size a) :
    (slabs.slice (Rect.unit (s := S4x32x16x1440) o S1x32x16x1440.size h) (fun _ => rfl)).squeeze S32x16x1440 squeezes_S1x32x16x1440_S32x16x1440 = slot s :=
  congrArg (fun M : Memref sig .tc .vmem S1x32x16x1440 .f32 => M.squeeze S32x16x1440 squeezes_S1x32x16x1440_S32x16x1440) (Memref.slice_unit_congr _ ho _ _ (fun _ => rfl) (fun _ => rfl))
/-- a box of the cells at `s` is cell `s`; -/
theorem cell_of {o : Fin 1 → Nat} {s : Fin 4} (ho : o = ![s.val]) (h : ∀ a, o a + S1.size a ≤ S4.size a) :
    (cc0_scratch1.slice (Rect.unit (s := S4) o S1.size h)).squeeze S_ squeezes_S1_S_ = cell s :=
  congrArg (fun A : DmaSems sig S1 => A.squeeze S_ squeezes_S1_S_) (SemArray.slice_unit_congr _ ho _ _)
/-- a box of the field at block `b`'s offsets is block `b`. -/
theorem block_of {o : Fin 3 → Nat} {b : Fin 45} (ho : o = ![0, 16 * b.val, 0]) (h : ∀ a, o a + S32x16x1440.size a ≤ S32x721x1440.size a) :
    field.slice (Rect.unit (s := S32x721x1440) o S32x16x1440.size h) (fun _ => rfl) = block b :=
  Memref.slice_unit_congr _ ho _ _ (fun _ => rfl) (fun _ => rfl)

set_option synthInstance.maxSize 4096

/-- The three transfers of the first point: slabs 0, 1 and 2. -/
theorem prime_offs : ∀ t : Fin grid0.N, first1 (grid0.coords t) →
    (k0_off2 0#32 = ![(Ring.sl 4 t.val).val, 0, 0, 0] ∧ k0_off1 0#32 = ![(Ring.sl 4 t.val).val] ∧ (![0, 0, 0] : Fin 3 → Nat) = ![0, 16 * (Ring.bk 45 t.val).val, 0])
    ∧ (k0_off2 1#32 = ![(Ring.sl 4 (t.val + 1)).val, 0, 0, 0] ∧ k0_off1 1#32 = ![(Ring.sl 4 (t.val + 1)).val] ∧ (![0, 16, 0] : Fin 3 → Nat) = ![0, 16 * (Ring.bk 45 (t.val + 1)).val, 0])
    ∧ (k0_off2 2#32 = ![(Ring.sl 4 (t.val + 2)).val, 0, 0, 0] ∧ k0_off1 2#32 = ![(Ring.sl 4 (t.val + 2)).val] ∧ (![0, 32, 0] : Fin 3 → Nat) = ![0, 16 * (Ring.bk 45 (t.val + 2)).val, 0]) := by decide +kernel
@[sl_canon] theorem prime_slot0 (t : Fin grid0.N) (h : first1 (grid0.coords t)) :
    (slabs.slice (Rect.unit (s := S4x32x16x1440) (k0_off2 0#32) S1x32x16x1440.size (k0_off2_inb (grid0.coords t) h 0)) (fun _ => rfl)).squeeze S32x16x1440 squeezes_S1x32x16x1440_S32x16x1440 = slot (Ring.sl 4 t.val) := slot_of (prime_offs t h).1.1 _
@[sl_canon] theorem prime_slot1 (t : Fin grid0.N) (h : first1 (grid0.coords t)) :
    (slabs.slice (Rect.unit (s := S4x32x16x1440) (k0_off2 1#32) S1x32x16x1440.size (k0_off2_inb (grid0.coords t) h 1)) (fun _ => rfl)).squeeze S32x16x1440 squeezes_S1x32x16x1440_S32x16x1440 = slot (Ring.sl 4 (t.val + 1)) := slot_of (prime_offs t h).2.1.1 _
@[sl_canon] theorem prime_slot2 (t : Fin grid0.N) (h : first1 (grid0.coords t)) :
    (slabs.slice (Rect.unit (s := S4x32x16x1440) (k0_off2 2#32) S1x32x16x1440.size (k0_off2_inb (grid0.coords t) h 2)) (fun _ => rfl)).squeeze S32x16x1440 squeezes_S1x32x16x1440_S32x16x1440 = slot (Ring.sl 4 (t.val + 2)) := slot_of (prime_offs t h).2.2.1 _
@[sl_canon] theorem prime_cell0 (t : Fin grid0.N) (h : first1 (grid0.coords t)) :
    (cc0_scratch1.slice (Rect.unit (s := S4) (k0_off1 0#32) S1.size (k0_off1_inb (grid0.coords t) h 0))).squeeze S_ squeezes_S1_S_ = cell (Ring.sl 4 t.val) := cell_of (prime_offs t h).1.2.1 _
@[sl_canon] theorem prime_cell1 (t : Fin grid0.N) (h : first1 (grid0.coords t)) :
    (cc0_scratch1.slice (Rect.unit (s := S4) (k0_off1 1#32) S1.size (k0_off1_inb (grid0.coords t) h 1))).squeeze S_ squeezes_S1_S_ = cell (Ring.sl 4 (t.val + 1)) := cell_of (prime_offs t h).2.1.2.1 _
@[sl_canon] theorem prime_cell2 (t : Fin grid0.N) (h : first1 (grid0.coords t)) :
    (cc0_scratch1.slice (Rect.unit (s := S4) (k0_off1 2#32) S1.size (k0_off1_inb (grid0.coords t) h 2))).squeeze S_ squeezes_S1_S_ = cell (Ring.sl 4 (t.val + 2)) := cell_of (prime_offs t h).2.2.2.1 _
theorem prime_block0 (t : Fin grid0.N) (h : first1 (grid0.coords t)) :
    field.slice (Rect.unit (s := S32x721x1440) ![0, 0, 0] S32x16x1440.size inb_S32x721x1440_S32x16x1440_0_0_0) (fun _ => rfl) = block (Ring.bk 45 t.val) := block_of (prime_offs t h).1.2.2 _
theorem prime_block1 (t : Fin grid0.N) (h : first1 (grid0.coords t)) :
    field.slice (Rect.unit (s := S32x721x1440) ![0, 16, 0] S32x16x1440.size inb_S32x721x1440_S32x16x1440_0_16_0) (fun _ => rfl) = block (Ring.bk 45 (t.val + 1)) := block_of (prime_offs t h).2.1.2.2 _
theorem prime_block2 (t : Fin grid0.N) (h : first1 (grid0.coords t)) :
    field.slice (Rect.unit (s := S32x721x1440) ![0, 32, 0] S32x16x1440.size inb_S32x721x1440_S32x16x1440_0_32_0) (fun _ => rfl) = block (Ring.bk 45 (t.val + 2)) := block_of (prime_offs t h).2.2.2.2 _

/-- The transfer started three ahead. -/
theorem start_offs : ∀ t : Fin grid0.N, k0_off4 (grid0.coords t) = ![(Ring.sl 4 (t.val + 3)).val, 0, 0, 0] ∧ k0_off3 (grid0.coords t) = ![(Ring.sl 4 (t.val + 3)).val]
    ∧ (ahead (grid0.coords t) → k0_off5 (grid0.coords t) = ![0, 16 * (Ring.bk 45 (t.val + 3)).val, 0]) := by decide +kernel
@[sl_canon] theorem start_slot (t : Fin grid0.N) (h : ahead (grid0.coords t)) :
    (slabs.slice (Rect.unit (s := S4x32x16x1440) (k0_off4 (grid0.coords t)) S1x32x16x1440.size (k0_off4_inb (grid0.coords t) h)) (fun _ => rfl)).squeeze S32x16x1440 squeezes_S1x32x16x1440_S32x16x1440 = slot (Ring.sl 4 (t.val + 3)) := slot_of (start_offs t).1 _
@[sl_canon] theorem start_cell (t : Fin grid0.N) (h : ahead (grid0.coords t)) :
    (cc0_scratch1.slice (Rect.unit (s := S4) (k0_off3 (grid0.coords t)) S1.size (k0_off3_inb (grid0.coords t) h))).squeeze S_ squeezes_S1_S_ = cell (Ring.sl 4 (t.val + 3)) := cell_of (start_offs t).2.1 _
@[sl_canon] theorem start_block (t : Fin grid0.N) (h : ahead (grid0.coords t)) :
    field.slice (Rect.unit (s := S32x721x1440) (k0_off5 (grid0.coords t)) S32x16x1440.size (k0_off5_inb (grid0.coords t) h)) (fun _ => rfl) = block (Ring.bk 45 (t.val + 3)) := block_of ((start_offs t).2.2 h) _

/-- The first point's own slab, collected. -/
theorem wait0_offs : ∀ t : Fin grid0.N, first2 (grid0.coords t) → k0_off7 = ![(Ring.sl 4 t.val).val, 0, 0, 0] ∧ k0_off6 = ![(Ring.sl 4 t.val).val] := by decide +kernel
@[sl_canon] theorem wait0_slot (t : Fin grid0.N) (h : first2 (grid0.coords t)) :
    (slabs.slice (Rect.unit (s := S4x32x16x1440) k0_off7 S1x32x16x1440.size (k0_off7_inb (grid0.coords t) h)) (fun _ => rfl)).squeeze S32x16x1440 squeezes_S1x32x16x1440_S32x16x1440 = slot (Ring.sl 4 t.val) := slot_of (wait0_offs t h).1 _
@[sl_canon] theorem wait0_cell (t : Fin grid0.N) (h : first2 (grid0.coords t)) :
    (cc0_scratch1.slice (Rect.unit (s := S4) k0_off6 S1.size (k0_off6_inb (grid0.coords t) h))).squeeze S_ squeezes_S1_S_ = cell (Ring.sl 4 t.val) := cell_of (wait0_offs t h).2 _

/-- The next point's slab, collected. -/
theorem wait_offs : ∀ t : Fin grid0.N, k0_off9 (grid0.coords t) = ![(Ring.sl 4 (t.val + 1)).val, 0, 0, 0] ∧ k0_off8 (grid0.coords t) = ![(Ring.sl 4 (t.val + 1)).val]
    ∧ (more (grid0.coords t) → k0_off10 (grid0.coords t) = ![0, 16 * (Ring.bk 45 (t.val + 1)).val, 0]) := by decide +kernel
@[sl_canon] theorem wait_slot (t : Fin grid0.N) (h : more (grid0.coords t)) :
    (slabs.slice (Rect.unit (s := S4x32x16x1440) (k0_off9 (grid0.coords t)) S1x32x16x1440.size (k0_off9_inb (grid0.coords t) h)) (fun _ => rfl)).squeeze S32x16x1440 squeezes_S1x32x16x1440_S32x16x1440 = slot (Ring.sl 4 (t.val + 1)) := slot_of (wait_offs t).1 _
@[sl_canon] theorem wait_cell (t : Fin grid0.N) (h : more (grid0.coords t)) :
    (cc0_scratch1.slice (Rect.unit (s := S4) (k0_off8 (grid0.coords t)) S1.size (k0_off8_inb (grid0.coords t) h))).squeeze S_ squeezes_S1_S_ = cell (Ring.sl 4 (t.val + 1)) := cell_of (wait_offs t).2.1 _
@[sl_canon] theorem wait_block (t : Fin grid0.N) (h : more (grid0.coords t)) :
    field.slice (Rect.unit (s := S32x721x1440) (k0_off10 (grid0.coords t)) S32x16x1440.size (k0_off10_inb (grid0.coords t) h)) (fun _ => rfl) = block (Ring.bk 45 (t.val + 1)) := block_of ((wait_offs t).2.2 h) _

/-- The slab the body reads is point `t`'s slot, and the row under it is in the next point's. -/
theorem load_offs : ∀ t : Fin grid0.N, k0_off11 (grid0.coords t) = ![(Ring.sl 4 t.val).val, 0, 0, 0] ∧ k0_off12 (grid0.coords t) = ![(Ring.sl 4 (t.val + 1)).val, 0, 0, 0] := by decide +kernel
instance (priority := high) closedOff_slab (t : Fin grid0.N) : ClosedOff (k0_off11 (grid0.coords t)) := ⟨![(Ring.sl 4 t.val).val, 0, 0, 0], (load_offs t).1⟩
instance (priority := high) closedOff_row (t : Fin grid0.N) : ClosedOff (k0_off12 (grid0.coords t)) := ⟨![(Ring.sl 4 (t.val + 1)).val, 0, 0, 0], (load_offs t).2⟩

end Names

end Cert.KernelIdeal.Stream

end
-- ==== Proof.Run.lean ====
/- One point of the kernel: the block it stores as a function of its blocks, its slab and the row under it; and the body's
   run at every point, from the ring before it to the ring after it. -/
module

public import proofs.«01_k».proof.Proof.Ring
public import Idealize.ShloMosaic.Lib.Pointwise
public import Idealize.ShloMosaic.Lib.VecWindow
public import Idealize.ShloMosaic.Lib.Pipeline.Value

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What one point computes -/

/-- The first row of each channel of a slab. -/
def topRow (X : Vec F S32x16x1440 .f32) : Vec F S32x1x1440 .f32 := fun y => X (ix3 (y 0) 0 (y 2))

/-- The block a point stores, from its blocks `x0`, `x1` of the two maps, the field's last row `x2`, its slab `X`, the row `n`
    under the slab, and the bit `b` saying that this row, not `x2`, is the one to take. -/
def sums (x0 x1 : Vec F S16x1440 .f32) (x2 : Vec F S32x1x1440 .f32) (X : Vec F S32x16x1440 .f32) (n : Vec F S32x1x1440 .f32) (b : BitVec 1) : Vec F S32x16x1440 .f32 :=
  k0_pay1 (k0_pay17 (k0_pay10 x0 x1)) (k0_pay18 (k0_pay11 x0 x1)) (k0_pay19 (k0_pay12 x0 x1))
    (k0_pay20 (k0_pay13 x0 x1) (k0_pay16 x0 x1)) (k0_pay21 (k0_pay14 x0 x1)) (k0_pay22 (k0_pay15 x0 x1))
    (k0_pay23 (k0_pay13 x0 x1)) (k0_pay24 (k0_pay14 x0 x1)) (k0_pay25 (k0_pay15 x0 x1))
    (truncf .bf16 X bitsLt_bf16_f32) n b x2

/-- Slab `b` of the field. -/
def slab {c : Dev nD} (W : HbBuf (F := F) c field) (b : Fin 45) : Vec F S32x16x1440 .f32 := (block b).view.read (Elt F) W

/-- The bit of point `t`: whether a next slab exists. -/
def bit (t : Fin cfg0.N) : BitVec 1 := Scalar.cmpi .slt (Scalar.addi (BitVec.ofNat 32 (grid0.coords t 0).val) 1#32) 45#32

section Reads
variable {c : Dev nD} (W : HbBuf (F := F) c field)

/-- A landed slot reads as the slab. -/
theorem read_landed (s : Fin 4) (b : Fin 45) (f) : (slot s).view.read (Elt F) (landed c W s b f) = slab W b :=
  View.read_writes_whole (slot s).view f _

omit [FloatOps F] in
/-- The scratch read at a slot's box is the slot read, -/
theorem load_slot {o : Fin 4 → Nat} {s : Fin 4} (ho : o = ![s.val, 0, 0, 0]) (h : ∀ a, o a + S1x32x16x1440.size a ≤ S4x32x16x1440.size a) (g : HbBuf (F := F) c (slot s)) :
    shapeCast S32x16x1440 (slabs.view.readAt (Elt F) (Rect.unit (s := S4x32x16x1440) o S1x32x16x1440.size h).toLoadRect g) shapeCasts_S1x32x16x1440_S32x16x1440
      = (slot s).view.read (Elt F) g := by
  subst ho; rfl
omit [FloatOps F] in
/-- Dropping the leading unit axis of a slab, or of its first row, reads the same element. -/
theorem drop_lead (f : S1x32x16x1440.Idx → Elt F .f32) (a : Fin 32) (r : Fin 16) (w : Fin 1440) :
    shapeCast S32x16x1440 f shapeCasts_S1x32x16x1440_S32x16x1440 (ix3 a r w) = f (ix4 0 a r w) := by pointwise
omit [FloatOps F] in
theorem drop_lead_row (f : S1x32x1x1440.Idx → Elt F .f32) (a : Fin 32) (r : Fin 1) (w : Fin 1440) :
    shapeCast S32x1x1440 f shapeCasts_S1x32x1x1440_S32x1x1440 (ix3 a r w) = f (ix4 0 a 0 w) := by pointwise

omit [FloatOps F] in
/-- and read at the box of its first row, the slot's first row. -/
theorem load_row {o : Fin 4 → Nat} {s : Fin 4} (ho : o = ![s.val, 0, 0, 0]) (h : ∀ a, o a + S1x32x1x1440.size a ≤ S4x32x16x1440.size a) (g : HbBuf (F := F) c (slot s)) :
    shapeCast S32x1x1440 (slabs.view.readAt (Elt F) (Rect.unit (s := S4x32x16x1440) o S1x32x1x1440.size h).toLoadRect g) shapeCasts_S1x32x1x1440_S32x1x1440
      = topRow ((slot s).view.read (Elt F) g) := by
  subst ho
  rw [← load_slot rfl (inb_slot s) g]
  funext y; idx_vars y
  unfold topRow
  refine (drop_lead_row _ _ _ _).trans (Eq.trans ?_ (drop_lead _ _ _ _).symm)
  refine congrArg (slabs.view.read (Elt F) g) (funext fun a => ?_)
  fin_cases a <;> rfl

/-- The stored payload, as the body computes it from its loads, is `sums`. -/
theorem payload_eq {A0 A1 x0 x1 : Vec F S16x1440 .f32} {A2 x2 : Vec F S32x1x1440 .f32} {S : Vec F S1x32x16x1440 .f32} {N : Vec F S1x32x1x1440 .f32}
    {X : Vec F S32x16x1440 .f32} {n : Vec F S32x1x1440 .f32} (b : BitVec 1) (h0 : A0 = x0) (h1 : A1 = x1) (h2 : A2 = x2)
    (hS : shapeCast S32x16x1440 S shapeCasts_S1x32x16x1440_S32x16x1440 = X) (hN : shapeCast S32x1x1440 N shapeCasts_S1x32x1x1440_S32x1x1440 = n) :
    k0_pay1 (k0_pay17 (k0_pay10 A0 A1)) (k0_pay18 (k0_pay11 A0 A1)) (k0_pay19 (k0_pay12 A0 A1))
      (k0_pay20 (k0_pay13 A0 A1) (k0_pay16 A0 A1)) (k0_pay21 (k0_pay14 A0 A1)) (k0_pay22 (k0_pay15 A0 A1))
      (k0_pay23 (k0_pay13 A0 A1)) (k0_pay24 (k0_pay14 A0 A1)) (k0_pay25 (k0_pay15 A0 A1)) (k0_pay26 S) (k0_pay27 N) b A2 = sums x0 x1 x2 X n b := by
  subst h0 h1 h2 hS hN; rfl

/-- Where the bit is off, the row under the slab is not looked at. -/
theorem sums_off {b : BitVec 1} (hb : b = 0#1) (x0 x1 : Vec F S16x1440 .f32) (x2 : Vec F S32x1x1440 .f32) (X : Vec F S32x16x1440 .f32) (n n' : Vec F S32x1x1440 .f32) :
    sums x0 x1 x2 X n b = sums x0 x1 x2 X n' b := by
  subst hb; rfl

theorem bit_eq : ∀ t : Fin cfg0.N, bit t = if t.val < 44 then 1#1 else 0#1 :=
  (by decide +kernel : ∀ t : Fin grid0.N, bit t = if t.val < 44 then 1#1 else 0#1)

end Reads

/-- The block point `t` stores. -/
def stored {c : Dev nD} (W : HbBuf (F := F) c field) (t : Fin cfg0.N) (x0 x1 : Vec F S16x1440 .f32) (x2 : Vec F S32x1x1440 .f32) : Vec F S32x16x1440 .f32 :=
  sums x0 x1 x2 (slab W (Ring.bk 45 t.val)) (topRow (slab W (Ring.bk 45 (t.val + 1)))) (bit t)

/-! ## The body's runs, one per kind of point -/

section Runs
variable (c : Dev nD) (t : Fin cfg0.N)
  (arg2 : Memref sig .tc .vmem S16x1440 .f32) (harg2 : arg2.IsWhole) (arg3 : Memref sig .tc .vmem S16x1440 .f32) (harg3 : arg3.IsWhole)
  (arg4 : Memref sig .tc .vmem S32x1x1440 .f32) (harg4 : arg4.IsWhole) (arg5 : Memref sig .tc .vmem S32x16x1440 .f32) (harg5 : arg5.IsWhole)
  (x0 : Vec F S16x1440 .f32) (x1 : Vec F S16x1440 .f32) (x2 : Vec F S32x1x1440 .f32) (W : HbBuf (F := F) c field)

/-- The body at point `t`, on the given staging memrefs, taking `P` of the ring and leaving `Q`: the inputs' blocks stay in
    place and the output's buffer ends at the block stored. -/
def Runs (P Q : sProp 𝕄) : Prop := ∀ (D : Waits sig Unit) (K : PUnit → sProp 𝕄),
  iprop(owns (c : Thread nD τ) arg2 fullShare x0 ∗ owns (c : Thread nD τ) arg3 fullShare x1 ∗ owns (c : Thread nD τ) arg4 fullShare x2 ∗ (∃ d, owns (c : Thread nD τ) arg5 fullShare d)
      ∗ P ∗ owes (c : Thread nD τ) 0 D
      ∗ (iprop(owns (c : Thread nD τ) arg2 fullShare x0 ∗ owns (c : Thread nD τ) arg3 fullShare x1 ∗ owns (c : Thread nD τ) arg4 fullShare x2
          ∗ owns (c : Thread nD τ) arg5 fullShare (stored W t x0 x1 x2) ∗ Q ∗ (∃ D', owes (c : Thread nD τ) 0 D')) -∗ K ⟨⟩))
    ⊢ wp frame (wpE (defs₀ (F := F)) Variants.none c none) Set.univ (cc0__body (grid0.coords t) (Memref.whole main_arg0) (Memref.isWhole_whole _) arg2 harg2 arg3 harg3 arg4 harg4 arg5 harg5 slabs (Memref.isWhole_whole _) cc0_scratch1) K

/-- The same on the buffers' raw contents, which is how it is run. -/
def RunsRaw (P Q : sProp 𝕄) : Prop := ∀ (D : Waits sig Unit) (K : PUnit → sProp 𝕄) (f3 : BufTy.Contents (Elt F) arg5.view.ty),
  iprop((arg2.view.loc (c : Thread nD τ) ↦[arg2.view.set]{fullShare} harg2.unread x0) ∗ (arg3.view.loc (c : Thread nD τ) ↦[arg3.view.set]{fullShare} harg3.unread x1)
      ∗ (arg4.view.loc (c : Thread nD τ) ↦[arg4.view.set]{fullShare} harg4.unread x2) ∗ (arg5.view.loc (c : Thread nD τ) ↦[arg5.view.set]{fullShare} f3)
      ∗ P ∗ owes (c : Thread nD τ) 0 D
      ∗ (iprop((arg2.view.loc (c : Thread nD τ) ↦[arg2.view.set]{fullShare} harg2.unread x0) ∗ (arg3.view.loc (c : Thread nD τ) ↦[arg3.view.set]{fullShare} harg3.unread x1)
          ∗ (arg4.view.loc (c : Thread nD τ) ↦[arg4.view.set]{fullShare} harg4.unread x2)
          ∗ (∃ f, iprop(⌜arg5.view.read (Elt F) f = stored W t x0 x1 x2⌝ ∗ (arg5.view.loc (c : Thread nD τ) ↦[arg5.view.set]{fullShare} f)))
          ∗ Q ∗ (∃ D', owes (c : Thread nD τ) 0 D')) -∗ K ⟨⟩))
    ⊢ wp frame (wpE (defs₀ (F := F)) Variants.none c none) Set.univ (cc0__body (grid0.coords t) (Memref.whole main_arg0) (Memref.isWhole_whole _) arg2 harg2 arg3 harg3 arg4 harg4 arg5 harg5 slabs (Memref.isWhole_whole _) cc0_scratch1) K

/-- A raw run is a run, on whatever ring it is asked from that the run's own covers. -/
theorem runs_of_raw {P Q P' Q' R : sProp 𝕄} (h : RunsRaw c t arg2 harg2 arg3 harg3 arg4 harg4 arg5 harg5 x0 x1 x2 W P Q)
    (hP : P' ⊢ iprop(P ∗ R)) (hQ : iprop(Q ∗ R) ⊢ Q') : Runs c t arg2 harg2 arg3 harg3 arg4 harg4 arg5 harg5 x0 x1 x2 W P' Q' := by
  intro D K
  unfold owns
  iintro ⟨⟨%f0, %hf0, H0⟩, ⟨%f1, %hf1, H1⟩, ⟨%f2, %hf2, H2⟩, ⟨%d3, %f3, -, H3⟩, HP, HW, Hk⟩
  obtain rfl := harg2.eq_unread hf0; obtain rfl := harg3.eq_unread hf1; obtain rfl := harg4.eq_unread hf2
  ihave HP' := hP $$ HP
  icases HP' with ⟨HP, HR⟩
  iapply (h D K f3)
  isplitl [H0]; · iexact H0
  isplitl [H1]; · iexact H1
  isplitl [H2]; · iexact H2
  isplitl [H3]; · iexact H3
  isplitl [HP]; · iexact HP
  isplitl [HW]; · iexact HW
  iintro ⟨H0, H1, H2, ⟨%f, %hf, H3⟩, HQ, HW⟩
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists f; isplitr; · ipureintro; exact hf
    iexact H3
  isplitr [HW]
  · iapply hQ; isplitl [HQ]; · iexact HQ
    iexact HR
  iexact HW

/-- A slot at rest with its share of the field is free; -/
theorem free_of (s : Fin 4) (f) : iprop(cellP (F := F) c s ∗ slotP c s f ∗ wholeP c W s) ⊢ (Free c W s : sProp 𝕄) := by
  unfold Free Ring.free
  iintro ⟨Hc, Hs, Hw⟩
  isplitl [Hc]; · iexact Hc
  iexists f; isplitl [Hs]; · iexact Hs
  iexact Hw
/-- a slot a transfer has just filled, the lent elements back, holds its slab; -/
theorem landed_of (s : Fin 4) (b : Fin 45) (f) : iprop(cellP (F := F) c s ∗ slotP c s (landed c W s b f) ∗ lentP c W s b ∗ restP c W s b) ⊢ (Landed c W s b : sProp 𝕄) := by
  unfold Landed Ring.kept
  iintro ⟨Hc, Hs, Hw⟩
  isplitl [Hc]; · iexact Hc
  iexists f; isplitl [Hs]; · iexact Hs
  iapply (share_split c W s b).2; iexact Hw
/-- a transfer started leaves its slab under way; -/
theorem coming_of (s : Fin 4) (b : Fin 45) (f) : flightW (F := F) c W s b f ⊢ (Coming c W s b : sProp 𝕄) := by
  unfold Coming Ring.inflight
  iintro H; iexists f; iexact H
/-- and a free slot is ready to be lent to a transfer of any slab. -/
theorem free_lend (s : Fin 4) (b : Fin 45) : (Free (F := F) c W s : sProp 𝕄) ⊢ iprop(cellP c s ∗ ∃ f, slotP c s f ∗ lentP c W s b ∗ restP c W s b) := by
  unfold Free Ring.free
  iintro ⟨Hc, ⟨%f, Hs, Hw⟩⟩
  isplitl [Hc]; · iexact Hc
  iexists f; isplitl [Hs]; · iexact Hs
  iapply (share_split c W s b).1; iexact Hw

/-- What the output's buffer holds after the body's store is the block `stored`, once its loads of the slab and of the row
    under it are known. -/
theorem stored_read {A0 A1 : Vec F S16x1440 .f32} {A2 : Vec F S32x1x1440 .f32} {S : Vec F S1x32x16x1440 .f32} {N : Vec F S1x32x1x1440 .f32}
    {n : Vec F S32x1x1440 .f32} (h0 : A0 = x0) (h1 : A1 = x1) (h2 : A2 = x2)
    (hS : shapeCast S32x16x1440 S shapeCasts_S1x32x16x1440_S32x16x1440 = slab W (Ring.bk 45 t.val))
    (hN : shapeCast S32x1x1440 N shapeCasts_S1x32x1x1440_S32x1x1440 = n)
    (hn : n = topRow (slab W (Ring.bk 45 (t.val + 1))) ∨ bit t = 0#1) :
    k0_pay1 (k0_pay17 (k0_pay10 A0 A1)) (k0_pay18 (k0_pay11 A0 A1)) (k0_pay19 (k0_pay12 A0 A1))
      (k0_pay20 (k0_pay13 A0 A1) (k0_pay16 A0 A1)) (k0_pay21 (k0_pay14 A0 A1)) (k0_pay22 (k0_pay15 A0 A1))
      (k0_pay23 (k0_pay13 A0 A1)) (k0_pay24 (k0_pay14 A0 A1)) (k0_pay25 (k0_pay15 A0 A1)) (k0_pay26 S) (k0_pay27 N) (bit t) A2 = stored W t x0 x1 x2 :=
  (payload_eq _ h0 h1 h2 hS hN).trans <| hn.elim (fun h => by rw [h]; rfl) (fun hb => sums_off hb _ _ _ _ _ _)

set_option maxHeartbeats 1000000 in
/-- The first point: the four transfers start and the first two slabs are collected. -/
theorem run_first (hc0 : first1 (grid0.coords t)) (hc1 : ahead (grid0.coords t)) (hc2 : first2 (grid0.coords t)) (hc3 : more (grid0.coords t)) :
    RunsRaw c t arg2 harg2 arg3 harg3 arg4 harg4 arg5 harg5 x0 x1 x2 W
      iprop(Free c W (Ring.sl 4 t.val) ∗ Free c W (Ring.sl 4 (t.val + 1)) ∗ Free c W (Ring.sl 4 (t.val + 2)) ∗ Free c W (Ring.sl 4 (t.val + 3)))
      iprop(Landed c W (Ring.sl 4 (t.val + 1)) (Ring.bk 45 (t.val + 1)) ∗ Coming c W (Ring.sl 4 (t.val + 2)) (Ring.bk 45 (t.val + 2)) ∗ Coming c W (Ring.sl 4 (t.val + 3)) (Ring.bk 45 (t.val + 3)) ∗ Free c W (Ring.sl 4 t.val)) := by
  intro D K f3
  haveI : Fact (first1 (grid0.coords t)) := ⟨hc0⟩; haveI : Fact (ahead (grid0.coords t)) := ⟨hc1⟩; haveI : Fact (first2 (grid0.coords t)) := ⟨hc2⟩; haveI : Fact (more (grid0.coords t)) := ⟨hc3⟩
  simp only [cc0__body_eq_skeleton]; unfold cc0__body_skel; simp only [k0_part1_eq_skeleton, k0_part2_eq_skeleton]
  have hcanon0 := prime_block0 t hc0
  have hcanon1 := prime_block1 t hc0
  have hcanon2 := prime_block2 t hc0
  iintro ⟨H0, H1, H2, H3, ⟨HA, HB, HC, HD⟩, HW, Hk⟩
  ihave HA := (free_lend c W (Ring.sl 4 t.val) (Ring.bk 45 t.val)) $$ HA; icases HA with ⟨HcA, %fA, HsA, HlA, HrA⟩
  ihave HB := (free_lend c W (Ring.sl 4 (t.val + 1)) (Ring.bk 45 (t.val + 1))) $$ HB; icases HB with ⟨HcB, %fB, HsB, HlB, HrB⟩
  ihave HC := (free_lend c W (Ring.sl 4 (t.val + 2)) (Ring.bk 45 (t.val + 2))) $$ HC; icases HC with ⟨HcC, %fC, HsC, HlC, HrC⟩
  ihave HD := (free_lend c W (Ring.sl 4 (t.val + 3)) (Ring.bk 45 (t.val + 3))) $$ HD; icases HD with ⟨HcD, %fD, HsD, HlD, HrD⟩
  sl_exec (disch := first | sl_exact hc0 | sl_exact hc1 | sl_exact hc2 | sl_exact hc3)
  sl_step
  iapply Hk
  isplitl [H0]; · iexact H0
  isplitl [H1]; · iexact H1
  isplitl [H2]; · iexact H2
  isplitl [H3]
  · iexists _; isplitr; swap; · iexact H3
    ipureintro
    exact (View.read_writes_full _ _ _ _ _).trans (stored_read c t x0 x1 x2 W ((View.readAt_full _ _ _).trans (harg2.read_unread _)) ((View.readAt_full _ _ _).trans (harg3.read_unread _))
      ((View.readAt_full _ _ _).trans (harg4.read_unread _)) ((load_slot (c := c) (load_offs t).1 _ _).trans (read_landed W _ _ _)) (load_row (c := c) (load_offs t).2 _ _) (.inl (congrArg topRow (read_landed W _ _ _))))
  isplitr [HW]; swap; · iexists _; iexact HW
  isplitl [HcB HsB HlB HrB]
  · iapply landed_of; isplitl [HcB]; · iexact HcB
    isplitl [HsB]; · iexact HsB
    isplitl [HlB]; · iexact HlB
    iexact HrB
  isplitl [HcC HrC]
  · iapply coming_of; isplitl [HcC]; · iexact HcC
    iexact HrC
  isplitl [HcD HrD]
  · iapply coming_of; isplitl [HcD]; · iexact HcD
    iexact HrD
  iapply free_of; isplitl [HcA]; · iexact HcA
  isplitl [HsA]; · iexact HsA
  iapply (share_split c W _ _).2; isplitl [HlA]; · iexact HlA
  iexact HrA

set_option maxHeartbeats 1000000 in
/-- A point with a slab to start and a slab to collect. -/
theorem run_mid (hc0 : ¬first1 (grid0.coords t)) (hc1 : ahead (grid0.coords t)) (hc2 : ¬first2 (grid0.coords t)) (hc3 : more (grid0.coords t)) :
    RunsRaw c t arg2 harg2 arg3 harg3 arg4 harg4 arg5 harg5 x0 x1 x2 W
      iprop(Landed c W (Ring.sl 4 t.val) (Ring.bk 45 t.val) ∗ Coming c W (Ring.sl 4 (t.val + 1)) (Ring.bk 45 (t.val + 1)) ∗ Free c W (Ring.sl 4 (t.val + 3)))
      iprop(Landed c W (Ring.sl 4 (t.val + 1)) (Ring.bk 45 (t.val + 1)) ∗ Coming c W (Ring.sl 4 (t.val + 3)) (Ring.bk 45 (t.val + 3)) ∗ Free c W (Ring.sl 4 t.val)) := by
  intro D K f3
  haveI : Fact (¬first1 (grid0.coords t)) := ⟨hc0⟩; haveI : Fact (ahead (grid0.coords t)) := ⟨hc1⟩; haveI : Fact (¬first2 (grid0.coords t)) := ⟨hc2⟩; haveI : Fact (more (grid0.coords t)) := ⟨hc3⟩
  simp only [cc0__body_eq_skeleton]; unfold cc0__body_skel; simp only [k0_part1_eq_skeleton, k0_part2_eq_skeleton]
  iintro ⟨H0, H1, H2, H3, ⟨HA, HB, HD⟩, HW, Hk⟩
  unfold Landed Ring.kept Coming Ring.inflight
  icases HA with ⟨HcA, ⟨%fA, HsA, HwA⟩⟩
  icases HB with ⟨%fB, HfB, HrB⟩
  ihave HD := (free_lend c W (Ring.sl 4 (t.val + 3)) (Ring.bk 45 (t.val + 3))) $$ HD; icases HD with ⟨HcD, %fD, HsD, HlD, HrD⟩
  sl_exec (disch := first | sl_exact hc0 | sl_exact hc1 | sl_exact hc2 | sl_exact hc3)
  sl_step
  iapply Hk
  isplitl [H0]; · iexact H0
  isplitl [H1]; · iexact H1
  isplitl [H2]; · iexact H2
  isplitl [H3]
  · iexists _; isplitr; swap; · iexact H3
    ipureintro
    exact (View.read_writes_full _ _ _ _ _).trans (stored_read c t x0 x1 x2 W ((View.readAt_full _ _ _).trans (harg2.read_unread _)) ((View.readAt_full _ _ _).trans (harg3.read_unread _))
      ((View.readAt_full _ _ _).trans (harg4.read_unread _)) ((load_slot (c := c) (load_offs t).1 _ _).trans (read_landed W _ _ _)) (load_row (c := c) (load_offs t).2 _ _) (.inl (congrArg topRow (read_landed W _ _ _))))
  isplitr [HW]; swap; · iexists _; iexact HW
  isplitl [HfB HfB_dst HfB_src HrB]
  · iapply landed_of; isplitl [HfB]; · iexact HfB
    isplitl [HfB_dst]; · iexact HfB_dst
    isplitl [HfB_src]; · iexact HfB_src
    iexact HrB
  isplitl [HcD HrD]
  · iapply coming_of; isplitl [HcD]; · iexact HcD
    iexact HrD
  iapply free_of; isplitl [HcA]; · iexact HcA
  isplitl [HsA]; · iexact HsA
  iexact HwA

set_option maxHeartbeats 1000000 in
/-- A point that starts no slab and collects one. -/
theorem run_tail (hc0 : ¬first1 (grid0.coords t)) (hc1 : ¬ahead (grid0.coords t)) (hc2 : ¬first2 (grid0.coords t)) (hc3 : more (grid0.coords t)) :
    RunsRaw c t arg2 harg2 arg3 harg3 arg4 harg4 arg5 harg5 x0 x1 x2 W
      iprop(Landed c W (Ring.sl 4 t.val) (Ring.bk 45 t.val) ∗ Coming c W (Ring.sl 4 (t.val + 1)) (Ring.bk 45 (t.val + 1)))
      iprop(Landed c W (Ring.sl 4 (t.val + 1)) (Ring.bk 45 (t.val + 1)) ∗ Free c W (Ring.sl 4 t.val)) := by
  intro D K f3
  haveI : Fact (¬first1 (grid0.coords t)) := ⟨hc0⟩; haveI : Fact (¬ahead (grid0.coords t)) := ⟨hc1⟩; haveI : Fact (¬first2 (grid0.coords t)) := ⟨hc2⟩; haveI : Fact (more (grid0.coords t)) := ⟨hc3⟩
  simp only [cc0__body_eq_skeleton]; unfold cc0__body_skel; simp only [k0_part1_eq_skeleton, k0_part2_eq_skeleton]
  iintro ⟨H0, H1, H2, H3, ⟨HA, HB⟩, HW, Hk⟩
  unfold Landed Ring.kept Coming Ring.inflight
  icases HA with ⟨HcA, ⟨%fA, HsA, HwA⟩⟩
  icases HB with ⟨%fB, HfB, HrB⟩
  sl_exec (disch := first | sl_exact hc0 | sl_exact hc1 | sl_exact hc2 | sl_exact hc3)
  sl_step
  iapply Hk
  isplitl [H0]; · iexact H0
  isplitl [H1]; · iexact H1
  isplitl [H2]; · iexact H2
  isplitl [H3]
  · iexists _; isplitr; swap; · iexact H3
    ipureintro
    exact (View.read_writes_full _ _ _ _ _).trans (stored_read c t x0 x1 x2 W ((View.readAt_full _ _ _).trans (harg2.read_unread _)) ((View.readAt_full _ _ _).trans (harg3.read_unread _))
      ((View.readAt_full _ _ _).trans (harg4.read_unread _)) ((load_slot (c := c) (load_offs t).1 _ _).trans (read_landed W _ _ _)) (load_row (c := c) (load_offs t).2 _ _) (.inl (congrArg topRow (read_landed W _ _ _))))
  isplitr [HW]; swap; · iexists _; iexact HW
  isplitl [HfB HfB_dst HfB_src HrB]
  · iapply landed_of; isplitl [HfB]; · iexact HfB
    isplitl [HfB_dst]; · iexact HfB_dst
    isplitl [HfB_src]; · iexact HfB_src
    iexact HrB
  iapply free_of; isplitl [HcA]; · iexact HcA
  isplitl [HsA]; · iexact HsA
  iexact HwA

set_option maxHeartbeats 1000000 in
/-- The last point: nothing to start, nothing to collect; the row under the slab is read off a free slot, and not used. -/
theorem run_last (hc0 : ¬first1 (grid0.coords t)) (hc1 : ¬ahead (grid0.coords t)) (hc2 : ¬first2 (grid0.coords t)) (hc3 : ¬more (grid0.coords t)) :
    RunsRaw c t arg2 harg2 arg3 harg3 arg4 harg4 arg5 harg5 x0 x1 x2 W
      iprop(Landed c W (Ring.sl 4 t.val) (Ring.bk 45 t.val) ∗ Free c W (Ring.sl 4 (t.val + 1)))
      iprop(Free c W (Ring.sl 4 (t.val + 1)) ∗ Free c W (Ring.sl 4 t.val)) := by
  intro D K f3
  haveI : Fact (¬first1 (grid0.coords t)) := ⟨hc0⟩; haveI : Fact (¬ahead (grid0.coords t)) := ⟨hc1⟩; haveI : Fact (¬first2 (grid0.coords t)) := ⟨hc2⟩; haveI : Fact (¬more (grid0.coords t)) := ⟨hc3⟩
  simp only [cc0__body_eq_skeleton]; unfold cc0__body_skel; simp only [k0_part1_eq_skeleton, k0_part2_eq_skeleton]
  iintro ⟨H0, H1, H2, H3, ⟨HA, HB⟩, HW, Hk⟩
  unfold Landed Ring.kept Free Ring.free
  icases HA with ⟨HcA, ⟨%fA, HsA, HwA⟩⟩
  icases HB with ⟨HcB, ⟨%fB, HsB, HwB⟩⟩
  sl_exec (disch := first | sl_exact hc0 | sl_exact hc1 | sl_exact hc2 | sl_exact hc3)
  sl_step
  iapply Hk
  isplitl [H0]; · iexact H0
  isplitl [H1]; · iexact H1
  isplitl [H2]; · iexact H2
  isplitl [H3]
  · iexists _; isplitr; swap; · iexact H3
    ipureintro
    exact (View.read_writes_full _ _ _ _ _).trans (stored_read c t x0 x1 x2 W ((View.readAt_full _ _ _).trans (harg2.read_unread _)) ((View.readAt_full _ _ _).trans (harg3.read_unread _))
      ((View.readAt_full _ _ _).trans (harg4.read_unread _)) ((load_slot (c := c) (load_offs t).1 _ _).trans (read_landed W _ _ _)) (load_row (c := c) (load_offs t).2 _ _) (.inr ((bit_eq t).trans (if_neg fun h => hc3 ((conds t).2.2.2.mpr h)))))
  isplitr [HW]; swap; · iexists _; iexact HW
  isplitl [HcB HsB HwB]
  · iapply free_of; isplitl [HcB]; · iexact HcB
    isplitl [HsB]; · iexact HsB
    iexact HwB
  iapply free_of; isplitl [HcA]; · iexact HcA
  isplitl [HsA]; · iexact HsA
  iexact HwA

/-- The body at any point, from the ring before it to the ring after it. -/
theorem run_body : Runs c t arg2 harg2 arg3 harg3 arg4 harg4 arg5 harg5 x0 x1 x2 W (ring c W t.val) (ring c W (t.val + 1)) := by
  obtain ⟨h1, ha, h2, hm⟩ := conds t
  have hN : t.val < 45 := lt_of_lt_of_eq t.isLt N_0
  have e4 : Ring.sl 4 (t.val + 1 + 3) = Ring.sl 4 t.val := Ring.sl_add 4 t.val
  unfold ring here coming
  rw [e4, if_neg (Nat.succ_ne_zero t.val), show t.val + 1 + 2 = t.val + 3 from rfl, show t.val + 1 + 1 = t.val + 2 from rfl]
  by_cases q0 : t.val = 0
  · have r := run_first c t arg2 harg2 arg3 harg3 arg4 harg4 arg5 harg5 x0 x1 x2 W (h1.2 q0) (ha.2 (by omega)) (h2.2 q0) (hm.2 (by omega))
    rw [if_pos q0, if_pos (by omega), if_pos (by omega), if_pos (by omega)]
    rw [q0] at r ⊢
    exact runs_of_raw _ _ _ _ _ _ _ _ _ _ _ _ _ _ r Laws.sep_emp.2 Laws.sep_emp.1
  rw [if_neg q0, if_pos hN]
  generalize hR : (if t.val + 2 < 45 then Coming c W (Ring.sl 4 (t.val + 2)) (Ring.bk 45 (t.val + 2)) else Free c W (Ring.sl 4 (t.val + 2))) = R
  by_cases q1 : t.val < 42
  · rw [if_pos (by omega), if_pos (by omega), if_pos (by omega)]
    refine runs_of_raw (R := R) _ _ _ _ _ _ _ _ _ _ _ _ _ _
      (run_mid c t arg2 harg2 arg3 harg3 arg4 harg4 arg5 harg5 x0 x1 x2 W (mt h1.1 q0) (ha.2 q1) (mt h2.1 q0) (hm.2 (by omega))) ?_ ?_
    · iintro ⟨HA, HB, HC, HD⟩
      isplitr [HC]; swap; · iexact HC
      isplitl [HA]; · iexact HA
      isplitl [HB]; · iexact HB
      iexact HD
    · iintro ⟨⟨HB, HD, HA⟩, HC⟩
      isplitl [HB]; · iexact HB
      isplitl [HC]; · iexact HC
      isplitl [HD]; · iexact HD
      iexact HA
  rw [if_neg (show ¬t.val + 3 < 45 by omega)]
  suffices h : RunsRaw c t arg2 harg2 arg3 harg3 arg4 harg4 arg5 harg5 x0 x1 x2 W
      iprop(Landed c W (Ring.sl 4 t.val) (Ring.bk 45 t.val) ∗ (if t.val + 1 < 45 then Coming c W (Ring.sl 4 (t.val + 1)) (Ring.bk 45 (t.val + 1)) else Free c W (Ring.sl 4 (t.val + 1))))
      iprop((if t.val + 1 < 45 then Landed c W (Ring.sl 4 (t.val + 1)) (Ring.bk 45 (t.val + 1)) else Free c W (Ring.sl 4 (t.val + 1))) ∗ Free c W (Ring.sl 4 t.val)) by
    refine runs_of_raw (R := iprop(R ∗ Free c W (Ring.sl 4 (t.val + 3)))) _ _ _ _ _ _ _ _ _ _ _ _ _ _ h ?_ ?_
    · iintro ⟨HA, HB, HC⟩
      isplitr [HC]; swap; · iexact HC
      isplitl [HA]; · iexact HA
      iexact HB
    · iintro ⟨⟨HB, HA⟩, HC, HD⟩
      isplitl [HB]; · iexact HB
      isplitl [HC]; · iexact HC
      isplitl [HD]; · iexact HD
      iexact HA
  by_cases q2 : t.val < 44
  · rw [if_pos (by omega), if_pos (by omega)]
    exact run_tail c t arg2 harg2 arg3 harg3 arg4 harg4 arg5 harg5 x0 x1 x2 W (mt h1.1 q0) (mt ha.1 q1) (mt h2.1 q0) (hm.2 q2)
  · rw [if_neg (by omega), if_neg (by omega)]
    exact run_last c t arg2 harg2 arg3 harg3 arg4 harg4 arg5 harg5 x0 x1 x2 W (mt h1.1 q0) (mt ha.1 q1) (mt h2.1 q0) (mt hm.1 q2)

end Runs

end Cert.KernelIdeal.Stream

end
-- ==== Proof.Whole.lean ====
/- The kernel run whole: the pipeline proof data (what every window holds and what lies between points), the launch from
   any memory, and what its result array and its arguments end at. -/
module

public import proofs.«01_k».proof.Proof.Run

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- What point `t` stores, of the arrays as the region finds them. -/
def out (c : Dev nD) (t : Fin cfg0.N) : Vec F S32x16x1440 .f32 :=
  stored (V m c main_arg0) t (iblk m c 0 t) (iblk m c 1 t) (iblk m c 2 t)

/-- What holds between points besides the windows: the generator register at anything, and the ring. -/
def between (c : Dev nD) (k : ℕ) : sProp 𝕄 := iprop((∃ r, prngReg c r) ∗ ring c (V m c main_arg0) k)

/-- The proof data on core `c`: the arrays as the region finds them; after the body every input's buffer at its block and
    the output's at what the point stored; nothing owed. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out m c t
  Φ t := between m c t.val
  q _ := fullShare
  owed _ := 0

theorem data_A (c : Dev nD) (w : Fin cfg0.W) : (data m 0 c).A w = V m c (Pipeline.arrRef spec0 w) := by dsimp only [data]
theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = out m c t := by dsimp only [data]
theorem before_0 (c : Dev nD) (t : Fin cfg0.N) (d) : (data m 0 c).before 0 t d = iblk m c 0 t := before_in0 m _ (data_A m c 0) (after_0 m c) t d
theorem before_1 (c : Dev nD) (t : Fin cfg0.N) (d) : (data m 0 c).before 1 t d = iblk m c 1 t := before_in1 m _ (data_A m c 1) (after_1 m c) t d
theorem before_2 (c : Dev nD) (t : Fin cfg0.N) (d) : (data m 0 c).before 2 t d = iblk m c 2 t := before_in2 m _ (data_A m c 2) (after_2 m c) t d

/-! ## The body, as the pipeline calls it -/

set_option maxHeartbeats 1200000 in
/-- Called on its windows' staging buffers between point `t` and the next, the body leaves them as the proof data says. -/
theorem body_sound (c : Dev nD) (t : Fin cfg0.N) :
    iprop((data m 0 c).Φ t.castSucc ∗ (data m 0 c).owesAt () t.castSucc
        ∗ (∃ d, owns (c : Thread nD τ) (ms0 t) fullShare ((data m 0 c).before 0 t d)) ∗ (∃ d, owns (c : Thread nD τ) (ms1 t) fullShare ((data m 0 c).before 1 t d))
        ∗ (∃ d, owns (c : Thread nD τ) (ms2 t) fullShare ((data m 0 c).before 2 t d)) ∗ (∃ d, owns (c : Thread nD τ) (ms3 t) fullShare ((data m 0 c).before 3 t d)))
      ⊢ wp frame (wpE (defs₀ (F := F)) Variants.none c none) Set.univ (bodyAt0 t) (fun _ =>
        iprop((data m 0 c).Φ t.succ ∗ (data m 0 c).owesAt () t.succ
          ∗ owns (c : Thread nD τ) (ms0 t) fullShare ((data m 0 c).after 0 t) ∗ owns (c : Thread nD τ) (ms1 t) fullShare ((data m 0 c).after 1 t)
          ∗ owns (c : Thread nD τ) (ms2 t) fullShare ((data m 0 c).after 2 t) ∗ owns (c : Thread nD τ) (ms3 t) fullShare ((data m 0 c).after 3 t))) := by
  unfold bodyAt0
  simp only [before_0, before_1, before_2, after_0, after_1, after_2, after_3]
  rw [show (data m 0 c).Φ t.castSucc = between m c t.val from rfl, show (data m 0 c).Φ t.succ = between m c (t.val + 1) from rfl]
  unfold Dat.owesAt Pipeline.owesWithin between
  rw [show (data m 0 c).owed t.castSucc = 0 from rfl, show (data m 0 c).owed t.succ = 0 from rfl]
  iintro ⟨⟨Hg, HR⟩, ⟨%D, -, HW⟩, ⟨%d0, H0⟩, ⟨%d1, H1⟩, ⟨%d2, H2⟩, ⟨%d3, H3⟩⟩
  iapply (run_body c t _ _ _ _ _ _ _ _ (iblk m c 0 t) (iblk m c 1 t) (iblk m c 2 t) (V m c main_arg0) D _)
  isplitl [H0]; · iexact H0
  isplitl [H1]; · iexact H1
  isplitl [H2]; · iexact H2
  isplitl [H3]; · iexists _; iexact H3
  isplitl [HR]; · iexact HR
  isplitl [HW]; · iexact HW
  iintro ⟨H0, H1, H2, H3, HR, ⟨%D', HW⟩⟩
  isplitl [Hg HR]
  · isplitl [Hg]; · iexact Hg
    iexact HR
  isplitl [HW]
  · iexists D'; isplitr; · ipureintro; exact fun _ _ => Or.inl trivial
    iexact HW
  isplitl [H0]; · iexact H0
  isplitl [H1]; · iexact H1
  isplitl [H2]; · iexact H2
  iexact H3

/-- The body the launch runs at point `t` is the kernel's on the point's staging buffers. -/
theorem body_row (t : Fin cfg0.N) : defs₀ (F := F) .tc cfg0.body (cfg0.bodyArgs t (cfg0.slots t)) = bodyAt0 t := by
  unfold defs₀; rw [Defs.onTc_tc]
/-- The pipeline's obligation on its body. -/
theorem body_obliged (c : Dev nD) : BodyObligation (data (F := F) m 0 c) (defs₀ (F := F)) Variants.none () Set.univ := fun t => by
  rw [bigSep_W0, bigSep_W0, body_row]
  exact triple_restated (body_sound m c t) rfl .rfl fun _ => .rfl

/-- What the launch lends is the ring before the first point; -/
theorem enter (c : Dev nD) : Pipeline.ΦD osem spec0 HB (V m) c ⊢ (data m 0 c).Φ 0 := by
  rw [lent_eq, show (data m 0 c).Φ 0 = between m c 0 from rfl]
  unfold between; rw [ring_first]
  iintro ⟨HS, Hg, HC, HF⟩
  isplitl [Hg]; · iexact Hg
  iapply (free_in c (V m c main_arg0))
  isplitl [HS]; · iexact HS
  isplitl [HC]; · iexact HC
  iexact HF
/-- and the ring after the last gives it back. -/
theorem leave (c : Dev nD) : (data m 0 c).Φ (Fin.last cfg0.N) ⊢ Pipeline.ΦD osem spec0 HB (V m) c := by
  rw [lent_eq, show (data m 0 c).Φ (Fin.last cfg0.N) = between m c grid0.N from rfl, show grid0.N = 45 from N_0]
  unfold between
  iintro ⟨Hg, HR⟩
  ihave HR' := ((ring_last c (V m c main_arg0)).trans (free_out c (V m c main_arg0))) $$ HR
  icases HR' with ⟨HS, HC, HF⟩
  isplitl [HS]; · iexact HS
  isplitl [Hg]; · iexact Hg
  isplitl [HC]; · iexact HC
  iexact HF

/-! ## The run -/

set_option backward.isDefEq.respectTransparency.types false in
/-- @main terminates without fault from any memory with zero counters, with every array of the pipeline at what the proof
    data makes of it, every other buffer as the region found it, and every counter at zero. -/
theorem run_raw : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 osem defs₀ Variants.none ownSemFacts HB HB_sub m ρ main
    (hbody := fun c => (body_obliged m c).loose) (hshare := fun c => (data m 0 c).share_full fun _ => rfl)
    (howed := fun _ _ => rfl) (V := V m) (hmain := hmain m Variants.none) (hA := data_A m) (hin := enter m) (hout := leave m)

/-- The arguments end as launched. -/
theorem kept {r : PUnit × MemSt nD τ sig (Elt F)} (h : Pipeline.FramePost cfgs (data m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).2 main_arg0 (Pipeline.mem_restRefs_of main_arg0 (by decide) (by decide))).trans (V_arg0 m c),
    ((h c).1 0).trans (((data m 0 c).arrAt_in 0 rfl _).trans ((data_A m c 0).trans (V_arg1 m c))),
    ((h c).1 1).trans (((data m 0 c).arrAt_in 1 rfl _).trans ((data_A m c 1).trans (V_arg2 m c)))⟩

/-- The kernel runs, its arguments end unchanged, and the machine ends quiescent. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨kept m h.1, h.2⟩) (run_raw m ρ)

/-! ## What the result array ends at -/

/-- Distinct points write distinct blocks of the result. -/
theorem index_inj : ∀ t t' : Fin cfg0.N, win0_3.index t = win0_3.index t' → t = t' :=
  (by decide +kernel : ∀ t t' : Fin grid0.N, win0_3.index t = win0_3.index t' → t = t')

/-- Block `t` of the final result, read back through the window, is what point `t` stored. -/
theorem block_final (c : Dev nD) (t : Fin cfg0.N) (hf : (cfg0.win 3).flush t = true) :
    ((cfg0.win 3).blk t).view.read (Elt F) ((data m 0 c).arrAt 3 cfg0.N) = (cfg0.win 3).cut (grid0.coords t) (out m c t) := by
  rw [(data m 0 c).read_blk_arrAt_eq_flushed 3 (fun t t' _ _ hne => (cfg0.win 3).disjoint_blk fun h => hne (index_inj t t' h)) cfg0.N t t.isLt hf]
  show (cfg0.win 3).cut (grid0.coords t) ((data m 0 c).after 3 t) = _
  rw [after_3]

end Cert.KernelIdeal.Stream

end
-- ==== Proof.Same.lean ====
/- The kernel as printed and its idealization are one text: what is proved of the second at every float instance is proved of
   the first at the bits. -/
module

public import proofs.«01_k».proof.Defs
public import proofs.«01_k».proof.Proof.Gen.Kernel.Launch
public import proofs.«01_k».proof.Proof.Whole

@[expose] public section

namespace Cert.Proof

open Idealize.ShloMosaic Idealize.SL.Sem

/-- The frame claim of the idealized kernel's text, at float instance `F`. -/
def QuiescentAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- It holds at every instance. -/
theorem quiescentAt (F : FTy → Type) [FloatOps F] : QuiescentAt F := fun m g _ => Cert.KernelIdeal.Stream.quiescent m g

/-- At the bits it is the printed kernel's frame claim, the two programs being the same term under two names. -/
theorem quiescent_Kernel_eq : Cert.quiescent_Kernel = QuiescentAt Bits := by sl_kernel_rfl

theorem quiescent_kernel : Cert.quiescent_Kernel := quiescent_Kernel_eq.mpr (quiescentAt Bits)
theorem quiescent_kernelIdeal : Cert.quiescent_KernelIdeal := quiescentAt Ideal

end Cert.Proof
-- ==== Proof.Spec.lean ====
/- The mathematics both programs are compared with: bilinear interpolation over the reals, stated of no program. -/
module

public import Idealize.ShloMosaic.Lib.Pointwise

@[expose] public section

noncomputable section

namespace Cert.Spec

open Idealize.ShloMosaic

/-- The values array's shape. -/
abbrev Field : Shape := ⟨3, ![32, 721, 1440]⟩
/-- A map's shape. -/
abbrev Map : Shape := ⟨2, ![720, 1440]⟩

/-- Channel `c` of `x`, at input row `r`, between columns `j` and `j + 1`, `dj` of the way to the right one. -/
def along (x : Field.Idx → ℝ) (dj : ℝ) (c : Fin 32) (r : Fin 721) (j : Fin 1439) : ℝ :=
  x (ix3 c r j.castSucc) + dj * (x (ix3 c r j.succ) - x (ix3 c r j.castSucc))

/-- The bilinear interpolation in the cell whose top left corner is row `r`, column `j`, at offsets `di` down and `dj` right. -/
def bilinear (x : Field.Idx → ℝ) (di dj : ℝ) (c : Fin 32) (r : Fin 720) (j : Fin 1439) : ℝ :=
  along x dj c r.castSucc j + di * (along x dj c r.succ j - along x dj c r.castSucc j)

/-- The maps are tame: the row coordinate at `(r, w)` lies in row `r`'s cell, and the column coordinate in cell `cell r w`,
    which is the cell to the left or to the right of column `w`. -/
structure Tame (i j : Map.Idx → ℝ) (cell : Fin 720 → Fin 1440 → Fin 1439) : Prop where
  row : ∀ (r : Fin 720) (w : Fin 1440), ⌊i (ix2 r w)⌋ = (r.val : ℤ)
  column : ∀ (r : Fin 720) (w : Fin 1440), ⌊j (ix2 r w)⌋ = ((cell r w).val : ℤ)
  beside : ∀ (r : Fin 720) (w : Fin 1440), (cell r w).val = w.val ∨ (cell r w).val + 1 = w.val

/-- The resampled field: at `(c, r, w)`, channel `c` interpolated at row `i r w` and column `j r w`. -/
def resampled (x : Field.Idx → ℝ) (i j : Map.Idx → ℝ) (cell : Fin 720 → Fin 1440 → Fin 1439) (c : Fin 32) (r : Fin 720)
    (w : Fin 1440) : ℝ :=
  bilinear x (i (ix2 r w) - r.val) (j (ix2 r w) - (cell r w).val) c r (cell r w)

end Cert.Spec

end
-- ==== Proof.Reference.lean ====
/- The reference's result, element by element: where the maps are tame and the values real, it is the bilinear interpolation. -/
module

public import proofs.«01_k».proof.Proof.Gen.ReferenceIdeal.Run
public import proofs.«01_k».proof.Proof.Spec
public import Idealize.ShloMosaic.Lib.StableHlo.Predicate

@[expose] public section

set_option maxRecDepth 8192

noncomputable section

namespace Cert.ReferenceIdeal.Reads

open Cert.ReferenceIdeal Cert.ReferenceIdeal.Gen Idealize.ShloMosaic Idealize.ShloMosaic.TcCoe

/-- The cell number a map names: its floor as an integer, clipped to `[0, top]`. -/
def clipped (top : BitVec 32) (a : FVec Ideal S720x1440 .f32) : IVec S720x1440 32 :=
  minsi (broadcastInDim S720x1440 ![] bcast_S_S720x1440 (id (constantI S_ 32 top)))
    (maxsi (broadcastInDim S720x1440 ![] bcast_S_S720x1440 (id (constantI S_ 32 0#32))) (fptosi 32 (Host.floor a)))

/-- The next cell. -/
def next (n : IVec S720x1440 32) : IVec S720x1440 32 :=
  addi n (broadcastInDim S720x1440 ![] bcast_S_S720x1440 (constantI S_ 32 1#32))

/-- An index of an axis of `len` elements, counted from the end where it is negative. -/
def fromEnd (len : BitVec 32) (n : IVec S720x1440 32) : IVec S720x1440 32 :=
  select (cmpi .slt n (broadcastInDim S720x1440 ![] bcast_S_S720x1440 (constantI S_ 32 0#32)))
    (addi n (broadcastInDim S720x1440 ![] bcast_S_S720x1440 (constantI S_ 32 len))) n

/-- The table of a gather: its row numbers beside its column numbers. -/
def table (a b : IVec S720x1440 32) : IVec S720x1440x2 32 :=
  concatenate S720x1440x2 2
    [⟨S720x1440x1, broadcastInDim S720x1440x1 ![0, 1] bcast_S720x1440_S720x1440x1_0_1 (fromEnd 721#32 a)⟩,
      ⟨S720x1440x1, broadcastInDim S720x1440x1 ![0, 1] bcast_S720x1440_S720x1440x1_0_1 (fromEnd 1440#32 b)⟩]
    concatenates_S720x1440x1_S720x1440x1_S720x1440x2_d2

/-- The values at rows `a` and columns `b`. -/
def taken (x : FVec Ideal S32x721x1440 .f32) (a b : IVec S720x1440 32) : FVec Ideal S32x720x1440 .f32 :=
  Host.gather gather_S32x721x1440_S720x1440x2_S32x720x1440_0_12_n_n_12_2_3211 x (table a b)

/-- One weight for every channel. -/
def everywhere (d : FVec Ideal S720x1440 .f32) : FVec Ideal S32x720x1440 .f32 :=
  broadcastInDim S32x720x1440 ![0, 1, 2] bcast_S1x720x1440_S32x720x1440_0_1_2
    (broadcastInDim S1x720x1440 ![1, 2] bcast_S720x1440_S1x720x1440_1_2 d)

/-- Linear interpolation from `a` to `b`. -/
def mixed (a b : FVec Ideal S32x720x1440 .f32) (d : FVec Ideal S720x1440 .f32) : FVec Ideal S32x720x1440 .f32 :=
  addf a (mulf (everywhere d) (subf b a))

/-- The reference's result of its three arguments. -/
def answer (x : FVec Ideal S32x721x1440 .f32) (i j : FVec Ideal S720x1440 .f32) : FVec Ideal S32x720x1440 .f32 :=
  let i0 := clipped 719#32 i
  let j0 := clipped 1438#32 j
  let dj := subf j (sitofp .f32 j0)
  mixed (mixed (taken x i0 j0) (taken x i0 (next j0)) dj) (mixed (taken x (next i0) j0) (taken x (next i0) (next j0)) dj)
    (subf i (sitofp .f32 i0))

/-- The reference's run ends at `answer`. -/
theorem res_eq (m : (ℓ : Loc nD τ sig) → Buf (Elt Ideal) ℓ) (c : Dev nD) :
    Value.res_out0 m c = answer (m ((c.tc : Thread nD τ).loc main_arg0)) (m ((c.tc : Thread nD τ).loc main_arg1))
      (m ((c.tc : Thread nD τ).loc main_arg2)) := rfl

/-- Where the map's floor is `n`, in range, so is the clipped cell number. -/
theorem clipped_at (top : ℕ) (a : Spec.Map.Idx → ℝ) (y : Spec.Map.Idx) (n : ℕ) (hn : ⌊a y⌋ = (n : ℤ)) (htop : n ≤ top)
    (hsmall : top < 2 ^ 31) : clipped (BitVec.ofNat 32 top) (fun z => (a z : EReal)) y = BitVec.ofNat 32 n := by
  have ht := StableHlo.Predicate.toInt_ofNat_small top hsmall
  have hm := StableHlo.Predicate.toInt_ofNat_small n (by omega)
  have hf : fptosi 32 (Host.floor (F := Ideal) (φ := .f32) fun z => (a z : EReal)) y = BitVec.ofNat 32 n := by
    show Ideal.fptosi 32 ((⌊a y⌋ : ℝ) : EReal) = _
    rw [hn, Ideal.fptosi, Ideal.toIntClamped_coe, if_pos (by positivity)]
    simp only [Int.cast_natCast, Int.floor_natCast]
    rw [min_eq_right (by norm_num; omega), max_eq_right (by norm_num)]
    exact BitVec.ofInt_natCast 32 n
  show IntOp.minsi (BitVec.ofNat 32 top) (IntOp.maxsi 0#32 (fptosi 32 (Host.floor (F := Ideal) (φ := .f32) fun z => (a z : EReal)) y)) = _
  rw [hf]
  have h0 : IntOp.maxsi 0#32 (BitVec.ofNat 32 n) = BitVec.ofNat 32 n := by
    unfold IntOp.maxsi
    rw [BitVec.slt_eq_decide, hm, decide_eq_false (by simp)]
    rfl
  rw [h0]
  unfold IntOp.minsi
  rw [BitVec.slt_eq_decide, hm, ht]
  by_cases h : top < n
  · omega
  · rw [decide_eq_false (by omega)]
    rfl

/-- The next cell's number. -/
theorem next_at (a : IVec S720x1440 32) (y : Spec.Map.Idx) (n : ℕ) (h : a y = BitVec.ofNat 32 n) :
    next a y = BitVec.ofNat 32 (n + 1) := by
  show IntOp.addi (a y) _ = _
  rw [h]
  exact (BitVec.ofNat_add _ _).symm

/-- A small index is not counted from the end. -/
theorem fromEnd_at (len : BitVec 32) (a : IVec S720x1440 32) (y : Spec.Map.Idx) (n : ℕ) (h : a y = BitVec.ofNat 32 n)
    (hn : n < 2 ^ 31) : fromEnd len a y = BitVec.ofNat 32 n := by
  have hp : (IntOp.cmpi .slt (BitVec.ofNat 32 n) 0#32 : BitVec 1) = 0#1 := by
    show BitVec.ofBool (BitVec.slt _ _) = _
    rw [BitVec.slt_eq_decide, StableHlo.Predicate.toInt_ofNat_small n hn, decide_eq_false (by simp)]
    rfl
  show Scalar.select (IntOp.cmpi .slt (a y) 0#32) _ (a y) = _
  rw [h, hp]
  rfl

/-- The table's first entry is the row. -/
theorem table_row (a b : IVec S720x1440 32) (r : Fin 720) (w : Fin 1440) :
    table a b (ix3 r w 0) = fromEnd 721#32 a (ix2 r w) := by
  unfold table
  pointwise

/-- The table's second entry is the column. -/
theorem table_column (a b : IVec S720x1440 32) (r : Fin 720) (w : Fin 1440) :
    table a b (ix3 r w 1) = fromEnd 1440#32 b (ix2 r w) := by
  unfold table
  pointwise

/-- The gather's dimension numbers. -/
abbrev dims : GatherDims S32x721x1440 S720x1440x2 S32x720x1440 :=
  gather_S32x721x1440_S720x1440x2_S32x720x1440_0_12_n_n_12_2_3211

/-- Where a result element reads its row number. -/
theorem at_row (c : Fin 32) (r : Fin 720) (w : Fin 1440) (h : List.idxOf (1 : Fin 3) dims.startIndexMap < dims.startIndexMap.length) :
    dims.siIdx (ix3 c r w) ⟨List.idxOf (1 : Fin 3) dims.startIndexMap, h⟩ = ix3 r w 0 := by
  funext k
  match k with
  | ⟨0, _⟩ => rfl
  | ⟨1, _⟩ => rfl
  | ⟨2, _⟩ => rfl

/-- Where a result element reads its column number. -/
theorem at_column (c : Fin 32) (r : Fin 720) (w : Fin 1440)
    (h : List.idxOf (2 : Fin 3) dims.startIndexMap < dims.startIndexMap.length) :
    dims.siIdx (ix3 c r w) ⟨List.idxOf (2 : Fin 3) dims.startIndexMap, h⟩ = ix3 r w 1 := by
  funext k
  match k with
  | ⟨0, _⟩ => rfl
  | ⟨1, _⟩ => rfl
  | ⟨2, _⟩ => rfl

/-- The gather at an element, its row and column numbers in range: the value at that row and column. -/
theorem taken_at (x : FVec Ideal S32x721x1440 .f32) (a b : IVec S720x1440 32) (c : Fin 32) (r : Fin 720) (w : Fin 1440)
    (p : Fin 721) (q : Fin 1440) (ha : a (ix2 r w) = BitVec.ofNat 32 p.val) (hb : b (ix2 r w) = BitVec.ofNat 32 q.val) :
    taken x a b (ix3 c r w) = x (ix3 c p q) := by
  have h1 : table a b (ix3 r w 0) = BitVec.ofNat 32 p.val :=
    (table_row a b r w).trans (fromEnd_at _ _ _ _ ha (by have := p.isLt; omega))
  have h2 : table a b (ix3 r w 1) = BitVec.ofNat 32 q.val :=
    (table_column a b r w).trans (fromEnd_at _ _ _ _ hb (by have := q.isLt; omega))
  have t1 : (BitVec.ofNat 32 p.val).toInt = (p.val : ℤ) :=
    StableHlo.Predicate.toInt_ofNat_small _ (by have := p.isLt; omega)
  have t2 : (BitVec.ofNat 32 q.val).toInt = (q.val : ℤ) :=
    StableHlo.Predicate.toInt_ofNat_small _ (by have := q.isLt; omega)
  unfold taken Host.gather
  refine congrArg x (funext fun k => Fin.ext ?_)
  have hb0 : ∀ k, k ∉ dims.operandBatchingDims := fun k => List.not_mem_nil
  match k with
  | ⟨0, _⟩ =>
    have hk : (0 : Fin 3) ∈ dims.sKept := (dims.mem_sKept 0).2 ⟨show (0 : Fin 3) ∉ [1, 2] by decide, hb0 0⟩
    show dims.start (ix3 c r w) (table a b) 0 + dims.batchCoord (ix3 c r w) 0 + dims.offCoord (ix3 c r w) 0 = c.val
    rw [dims.batchCoord_eq_zero _ _ (hb0 0)]
    unfold GatherDims.start GatherDims.offCoord
    rw [dif_neg (show (0 : Fin 3) ∉ dims.startIndexMap from show (0 : Fin 3) ∉ [1, 2] by decide), dif_pos hk, Nat.zero_add]
    rfl
  | ⟨1, _⟩ =>
    have hk : (1 : Fin 3) ∉ dims.sKept := fun h => ((dims.mem_sKept 1).1 h).1 (show (1 : Fin 3) ∈ [1, 2] by decide)
    show dims.start (ix3 c r w) (table a b) 1 + dims.batchCoord (ix3 c r w) 1 + dims.offCoord (ix3 c r w) 1 = p.val
    rw [dims.batchCoord_eq_zero _ _ (hb0 1), dims.offCoord_eq_zero _ _ hk]
    unfold GatherDims.start
    rw [dif_pos (show (1 : Fin 3) ∈ dims.startIndexMap from show (1 : Fin 3) ∈ [1, 2] by decide), at_row, h1, t1]
    show min ((p.val : ℤ)).toNat 720 = p.val
    have := p.isLt
    omega
  | ⟨2, _⟩ =>
    have hk : (2 : Fin 3) ∉ dims.sKept := fun h => ((dims.mem_sKept 2).1 h).1 (show (2 : Fin 3) ∈ [1, 2] by decide)
    show dims.start (ix3 c r w) (table a b) 2 + dims.batchCoord (ix3 c r w) 2 + dims.offCoord (ix3 c r w) 2 = q.val
    rw [dims.batchCoord_eq_zero _ _ (hb0 2), dims.offCoord_eq_zero _ _ hk]
    unfold GatherDims.start
    rw [dif_pos (show (2 : Fin 3) ∈ dims.startIndexMap from show (2 : Fin 3) ∈ [1, 2] by decide), at_column, h2, t2]
    show min ((q.val : ℤ)).toNat 1439 = q.val
    have := q.isLt
    omega

/-- A linear interpolation at an element. -/
theorem mixed_at (a b : FVec Ideal S32x720x1440 .f32) (d : FVec Ideal S720x1440 .f32) (c : Fin 32) (r : Fin 720) (w : Fin 1440) :
    mixed a b d (ix3 c r w) = a (ix3 c r w) + d (ix2 r w) * (b (ix3 c r w) - a (ix3 c r w)) := by
  unfold mixed everywhere
  pointwise

/-- A map's offset in its cell. -/
theorem offset_at (a : Spec.Map.Idx → ℝ) (n : IVec S720x1440 32) (y : Spec.Map.Idx) (k : ℕ) (hk : k < 2 ^ 31)
    (h : n y = BitVec.ofNat 32 k) :
    subf (F := Ideal) (φ := .f32) (fun z => (a z : EReal)) (sitofp .f32 n) y = ((a y - k : ℝ) : EReal) := by
  show (a y : EReal) - (((n y).toInt : ℝ) : EReal) = _
  rw [h, StableHlo.Predicate.toInt_ofNat_small k hk, Int.cast_natCast]
  exact (EReal.coe_sub _ _).symm

/-- The reference at an element, at real values and tame maps: the bilinear interpolation. -/
theorem answer_at (x : Spec.Field.Idx → ℝ) (i j : Spec.Map.Idx → ℝ) (cell : Fin 720 → Fin 1440 → Fin 1439)
    (T : Spec.Tame i j cell) (c : Fin 32) (r : Fin 720) (w : Fin 1440) :
    answer (fun z => (x z : EReal)) (fun z => (i z : EReal)) (fun z => (j z : EReal)) (ix3 c r w)
      = ((Spec.resampled x i j cell c r w : ℝ) : EReal) := by
  have hr := r.isLt
  have hc := (cell r w).isLt
  have i0 := clipped_at 719 i (ix2 r w) r.val (T.row r w) (by omega) (by omega)
  have j0 := clipped_at 1438 j (ix2 r w) (cell r w).val (T.column r w) (by omega) (by omega)
  have i1 := next_at _ _ _ i0
  have j1 := next_at _ _ _ j0
  simp only [answer, mixed_at]
  rw [taken_at _ _ _ c r w r.castSucc (cell r w).castSucc i0 j0, taken_at _ _ _ c r w r.castSucc (cell r w).succ i0 j1,
    taken_at _ _ _ c r w r.succ (cell r w).castSucc i1 j0, taken_at _ _ _ c r w r.succ (cell r w).succ i1 j1,
    offset_at i _ _ _ (by omega) i0, offset_at j _ _ _ (by omega) j0]
  simp only [← EReal.coe_sub, ← EReal.coe_mul, ← EReal.coe_add]
  rfl

end Cert.ReferenceIdeal.Reads

end
-- ==== Proof.Sums.lean ====
/- What one grid point stores, element by element, over the extended reals: the three-column sum of its own row and the
   three-column sum of the row below. -/
module

public import proofs.«01_k».proof.Proof.Run
public import proofs.«01_k».proof.Proof.Spec
public import Idealize.ShloMosaic.Lib.StableHlo.Predicate

@[expose] public section

set_option maxRecDepth 16384

noncomputable section

namespace Cert.KernelIdeal.Stream

open Cert.KernelIdeal Cert.KernelIdeal.Gen Idealize.ShloMosaic

/-- The column to the left, the first column its own left neighbour. -/
def leftOf (w : Fin 1440) : Fin 1440 := ⟨w.val - 1, by omega⟩
/-- The column to the right, the last column its own right neighbour. -/
def rightOf (w : Fin 1440) : Fin 1440 := ⟨min (w.val + 1) 1439, by omega⟩

/-- A slab shifted one column right. -/
def shiftRight (X : FVec Ideal S32x16x1440 .bf16) : FVec Ideal S32x16x1440 .bf16 :=
  concatenate S32x16x1440 2
    [⟨S32x16x1, extractStridedSlice S32x16x1 ![0, 0, 0] X slices_S32x16x1440_o0_0_0_S32x16x1⟩,
      ⟨S32x16x1439, extractStridedSlice S32x16x1439 ![0, 0, 0] X slices_S32x16x1440_o0_0_0_S32x16x1439⟩]
    concatenates_S32x16x1_S32x16x1439_S32x16x1440_d2

/-- A slab shifted one column left. -/
def shiftLeft (X : FVec Ideal S32x16x1440 .bf16) : FVec Ideal S32x16x1440 .bf16 :=
  concatenate S32x16x1440 2
    [⟨S32x16x1439, extractStridedSlice S32x16x1439 ![0, 0, 1] X slices_S32x16x1440_o0_0_1_S32x16x1439⟩,
      ⟨S32x16x1, extractStridedSlice S32x16x1 ![0, 0, 1439] X slices_S32x16x1440_o0_0_1439_S32x16x1⟩]
    concatenates_S32x16x1439_S32x16x1_S32x16x1440_d2

/-- One row per channel shifted one column right. -/
def rowRight (X : FVec Ideal S32x1x1440 .bf16) : FVec Ideal S32x1x1440 .bf16 :=
  concatenate S32x1x1440 2
    [⟨S32x1x1, extractStridedSlice S32x1x1 ![0, 0, 0] X slices_S32x1x1440_o0_0_0_S32x1x1⟩,
      ⟨S32x1x1439, extractStridedSlice S32x1x1439 ![0, 0, 0] X slices_S32x1x1440_o0_0_0_S32x1x1439⟩]
    concatenates_S32x1x1_S32x1x1439_S32x1x1440_d2

/-- One row per channel shifted one column left. -/
def rowLeft (X : FVec Ideal S32x1x1440 .bf16) : FVec Ideal S32x1x1440 .bf16 :=
  concatenate S32x1x1440 2
    [⟨S32x1x1439, extractStridedSlice S32x1x1439 ![0, 0, 1] X slices_S32x1x1440_o0_0_1_S32x1x1439⟩,
      ⟨S32x1x1, extractStridedSlice S32x1x1 ![0, 0, 1439] X slices_S32x1x1440_o0_0_1439_S32x1x1⟩]
    concatenates_S32x1x1439_S32x1x1_S32x1x1440_d2

theorem shiftRight_at (X : FVec Ideal S32x16x1440 .bf16) (c : Fin 32) (r : Fin 16) (w : Fin 1440) :
    shiftRight X (ix3 c r w) = X (ix3 c r (leftOf w)) := by
  unfold shiftRight
  pointwise
  split <;> exact congrArg (fun v => X (ix3 c r v)) (Fin.ext (by simp only [leftOf] <;> omega))

theorem shiftLeft_at (X : FVec Ideal S32x16x1440 .bf16) (c : Fin 32) (r : Fin 16) (w : Fin 1440) :
    shiftLeft X (ix3 c r w) = X (ix3 c r (rightOf w)) := by
  unfold shiftLeft
  pointwise
  split <;> exact congrArg (fun v => X (ix3 c r v)) (Fin.ext (by simp only [rightOf] <;> omega))

theorem rowRight_at (X : FVec Ideal S32x1x1440 .bf16) (c : Fin 32) (w : Fin 1440) :
    rowRight X (ix3 c 0 w) = X (ix3 c 0 (leftOf w)) := by
  unfold rowRight
  pointwise
  split <;> exact congrArg (fun v => X (ix3 c 0 v)) (Fin.ext (by simp only [leftOf] <;> omega))

theorem rowLeft_at (X : FVec Ideal S32x1x1440 .bf16) (c : Fin 32) (w : Fin 1440) :
    rowLeft X (ix3 c 0 w) = X (ix3 c 0 (rightOf w)) := by
  unfold rowLeft
  pointwise
  split <;> exact congrArg (fun v => X (ix3 c 0 v)) (Fin.ext (by simp only [rightOf] <;> omega))

/-- A slab's three-column sum. -/
def weighted (a b d : FVec Ideal S1x16x1440 .bf16) (X : FVec Ideal S32x16x1440 .bf16) : FVec Ideal S32x16x1440 .bf16 :=
  addf (addf (mulf (broadcastTo S32x16x1440 a broadcasts_S1x16x1440_S32x16x1440) (shiftRight X))
    (mulf (broadcastTo S32x16x1440 b broadcasts_S1x16x1440_S32x16x1440) X))
    (mulf (broadcastTo S32x16x1440 d broadcasts_S1x16x1440_S32x16x1440) (shiftLeft X))

/-- The three-column sum of one row per channel. -/
def rowWeighted (a b d : FVec Ideal S1x1x1440 .bf16) (X : FVec Ideal S32x1x1440 .bf16) : FVec Ideal S32x1x1440 .bf16 :=
  addf (addf (mulf (broadcastTo S32x1x1440 a broadcasts_S1x1x1440_S32x1x1440) (rowRight X))
    (mulf (broadcastTo S32x1x1440 b broadcasts_S1x1x1440_S32x1x1440) X))
    (mulf (broadcastTo S32x1x1440 d broadcasts_S1x1x1440_S32x1x1440) (rowLeft X))

theorem weighted_at (a b d : FVec Ideal S1x16x1440 .bf16) (X : FVec Ideal S32x16x1440 .bf16) (c : Fin 32) (r : Fin 16)
    (w : Fin 1440) :
    weighted a b d X (ix3 c r w) = a (ix3 0 r w) * X (ix3 c r (leftOf w)) + b (ix3 0 r w) * X (ix3 c r w)
      + d (ix3 0 r w) * X (ix3 c r (rightOf w)) := by
  rw [← shiftRight_at X, ← shiftLeft_at X]
  unfold weighted
  pointwise

theorem rowWeighted_at (a b d : FVec Ideal S1x1x1440 .bf16) (X : FVec Ideal S32x1x1440 .bf16) (c : Fin 32) (w : Fin 1440) :
    rowWeighted a b d X (ix3 c 0 w) = a (ix3 0 0 w) * X (ix3 c 0 (leftOf w)) + b (ix3 0 0 w) * X (ix3 c 0 w)
      + d (ix3 0 0 w) * X (ix3 c 0 (rightOf w)) := by
  rw [← rowRight_at X, ← rowLeft_at X]
  unfold rowWeighted
  pointwise

/-- What the point stores: its slab's sum, plus the sum of the rows below, the last of them the next slab's or the last row. -/
def stacked (u : FVec Ideal S32x16x1440 .bf16) (y : FVec Ideal S32x16x1440 .bf16) (h : FVec Ideal S32x1x1440 .bf16) :
    FVec Ideal S32x16x1440 .bf16 :=
  addf u (concatenate S32x16x1440 1
    [⟨S32x15x1440, extractStridedSlice S32x15x1440 ![0, 1, 0] y slices_S32x16x1440_o0_1_0_S32x15x1440⟩, ⟨S32x1x1440, h⟩]
    concatenates_S32x15x1440_S32x1x1440_S32x16x1440_d1)

theorem stacked_inner (u y : FVec Ideal S32x16x1440 .bf16) (h : FVec Ideal S32x1x1440 .bf16) (c : Fin 32) (r r' : Fin 16)
    (w : Fin 1440) (hr : r'.val = r.val + 1) : stacked u y h (ix3 c r w) = u (ix3 c r w) + y (ix3 c r' w) := by
  unfold stacked
  pointwise
  rw [dif_pos (by have := r'.isLt; omega)]
  exact congrArg (fun v => u (ix3 c r w) + y (ix3 c v w)) (Fin.ext (by simp only []; omega))

theorem stacked_last (u y : FVec Ideal S32x16x1440 .bf16) (h : FVec Ideal S32x1x1440 .bf16) (c : Fin 32) (r : Fin 16)
    (w : Fin 1440) (hr : r.val = 15) : stacked u y h (ix3 c r w) = u (ix3 c r w) + h (ix3 c 0 w) := by
  unfold stacked
  pointwise
  rw [dif_neg (by omega)]
  exact congrArg (fun v => u (ix3 c r w) + h (ix3 c v w)) (Subsingleton.elim _ _)

/-- The stored payload is a stack of three-column sums. -/
theorem sums_eq (x0 x1 : Vec Ideal S16x1440 .f32) (x2 : Vec Ideal S32x1x1440 .f32) (X : Vec Ideal S32x16x1440 .f32)
    (n : Vec Ideal S32x1x1440 .f32) (b : BitVec 1) :
    sums x0 x1 x2 X n b = stacked (weighted (k0_pay10 x0 x1) (k0_pay11 x0 x1) (k0_pay12 x0 x1) X)
      (weighted (k0_pay20 (k0_pay13 x0 x1) (k0_pay16 x0 x1)) (k0_pay21 (k0_pay14 x0 x1)) (k0_pay22 (k0_pay15 x0 x1)) X)
      (rowWeighted (k0_pay23 (k0_pay13 x0 x1)) (k0_pay24 (k0_pay14 x0 x1)) (k0_pay25 (k0_pay15 x0 x1))
        (Scalar.select b n (shapeCast S32x1x1440 x2 shapeCasts_S32x1x1440_S32x1x1440))) := rfl

/-- The three column weights at column `w` of a column coordinate `j`, and the two row factors of a row coordinate `i`. -/
def left (j : EReal) (w : Fin 1440) : EReal :=
  if Ideal.liftRound Int.floor j ≥ ((w.val : ℝ) : EReal) then 0 else 1 - (j - Ideal.liftRound Int.floor j)
def centre (j : EReal) (w : Fin 1440) : EReal :=
  if Ideal.liftRound Int.floor j ≥ ((w.val : ℝ) : EReal) then 1 - (j - Ideal.liftRound Int.floor j) else j - Ideal.liftRound Int.floor j
def right (j : EReal) (w : Fin 1440) : EReal :=
  if Ideal.liftRound Int.floor j ≥ ((w.val : ℝ) : EReal) then j - Ideal.liftRound Int.floor j else 0
def lower (i : EReal) : EReal := i - Ideal.liftRound Int.floor i
def upper (i : EReal) : EReal := 1 - lower i

/-- A column number as a float is the column number. -/
theorem column_at (w : Fin 1440) : (FloatOps.sitofp FTy.f32 (BitVec.ofNat 32 w.val) : Ideal .f32) = ((w.val : ℝ) : EReal) := by
  show (((BitVec.ofNat 32 w.val).toInt : ℝ) : EReal) = _
  rw [StableHlo.Predicate.toInt_ofNat_small _ (by have := w.isLt; omega), Int.cast_natCast]

section Weights
variable (i j : Vec Ideal S16x1440 .f32) (r : Fin 16) (w : Fin 1440)

/-- The three column weights and the two row factors at an element. -/
theorem left_at : k0_pay6 j (ix2 r w) = left (j (ix2 r w)) w := by
  pointwise [k0_pay6, k0_pay5, k0_pay3, k0_pay2]
  rw [column_at]; rfl
theorem centre_at : k0_pay7 j (ix2 r w) = centre (j (ix2 r w)) w := by
  pointwise [k0_pay7, k0_pay5, k0_pay3, k0_pay2]
  rw [column_at]; rfl
theorem right_at : k0_pay8 j (ix2 r w) = right (j (ix2 r w)) w := by
  pointwise [k0_pay8, k0_pay5, k0_pay3, k0_pay2]
  rw [column_at]; rfl
theorem lower_at : k0_pay4 i (ix2 r w) = lower (i (ix2 r w)) := by
  pointwise [k0_pay4]
  rfl
theorem upper_at : k0_pay9 i (ix2 r w) = upper (i (ix2 r w)) := by
  rw [upper, ← lower_at i r w]
  unfold k0_pay9
  pointwise

/-- The weights of the point's own rows. -/
theorem own_left : k0_pay10 i j (ix3 0 r w) = upper (i (ix2 r w)) * left (j (ix2 r w)) w := by
  rw [← left_at, ← upper_at]; unfold k0_pay10; pointwise
theorem own_centre : k0_pay11 i j (ix3 0 r w) = upper (i (ix2 r w)) * centre (j (ix2 r w)) w := by
  rw [← centre_at, ← upper_at]; unfold k0_pay11; pointwise
theorem own_right : k0_pay12 i j (ix3 0 r w) = upper (i (ix2 r w)) * right (j (ix2 r w)) w := by
  rw [← right_at, ← upper_at]; unfold k0_pay12; pointwise

/-- The weights of the rows below. -/
theorem below_left : k0_pay13 i j (ix2 r w) = lower (i (ix2 r w)) * left (j (ix2 r w)) w := by
  rw [← left_at, ← lower_at]; unfold k0_pay13; pointwise
theorem below_centre : k0_pay14 i j (ix2 r w) = lower (i (ix2 r w)) * centre (j (ix2 r w)) w := by
  rw [← centre_at, ← lower_at]; unfold k0_pay14; pointwise
theorem below_right : k0_pay15 i j (ix2 r w) = lower (i (ix2 r w)) * right (j (ix2 r w)) w := by
  rw [← right_at, ← lower_at]; unfold k0_pay15; pointwise

end Weights

section Down
variable (i j a : FVec Ideal S16x1440 .f32) (w : Fin 1440)

/-- Weights moved down one row, from the second row on. -/
theorem down_left (r r' : Fin 16) (hr : r'.val = r.val + 1) :
    k0_pay20 (F := Ideal) (k0_pay13 i j) (k0_pay16 i j) (ix3 0 r' w) = k0_pay13 (F := Ideal) i j (ix2 r w) := by
  unfold k0_pay20 k0_pay16; pointwise
  rw [dif_neg (by omega)]
  exact congrArg (fun v => k0_pay13 (F := Ideal) i j (ix2 v w)) (Fin.ext (by simp only [] <;> omega))
theorem down_centre (r r' : Fin 16) (hr : r'.val = r.val + 1) : k0_pay21 a (ix3 0 r' w) = a (ix2 r w) := by
  pointwise [k0_pay21]
  rw [dif_neg (by omega)]
  exact congrArg (fun v => a (ix2 v w)) (Fin.ext (by simp only [] <;> omega))
theorem down_right (r r' : Fin 16) (hr : r'.val = r.val + 1) : k0_pay22 a (ix3 0 r' w) = a (ix2 r w) := by
  pointwise [k0_pay22]
  rw [dif_neg (by omega)]
  exact congrArg (fun v => a (ix2 v w)) (Fin.ext (by simp only [] <;> omega))

/-- The last row's weights. -/
theorem last_left : k0_pay23 a (ix3 0 0 w) = a (ix2 15 w) := by
  pointwise [k0_pay23]
theorem last_centre : k0_pay24 a (ix3 0 0 w) = a (ix2 15 w) := by
  pointwise [k0_pay24]
theorem last_right : k0_pay25 a (ix3 0 0 w) = a (ix2 15 w) := by
  pointwise [k0_pay25]

end Down

/-- A row `f`'s three-column sum at column `w`, of a column coordinate `j` and a row factor `k`. -/
def three (f : Fin 1440 → EReal) (j k : EReal) (w : Fin 1440) : EReal :=
  k * left j w * f (leftOf w) + k * centre j w * f w + k * right j w * f (rightOf w)

/-- The stored element: the sum of its own row `f` and the sum of the row `g` below. -/
def twoRows (f g : Fin 1440 → EReal) (i j : EReal) (w : Fin 1440) : EReal :=
  three f j (upper i) w + three g j (lower i) w

section Stored
variable (x0 x1 : Vec Ideal S16x1440 .f32) (x2 : Vec Ideal S32x1x1440 .f32) (X : Vec Ideal S32x16x1440 .f32)
  (n : Vec Ideal S32x1x1440 .f32) (b : BitVec 1) (c : Fin 32) (r : Fin 16) (w : Fin 1440)

/-- The stored element above the last row. -/
theorem sums_inner (r' : Fin 16) (hr : r'.val = r.val + 1) :
    sums x0 x1 x2 X n b (ix3 c r w)
      = twoRows (fun v => X (ix3 c r v)) (fun v => X (ix3 c r' v)) (x0 (ix2 r w)) (x1 (ix2 r w)) w := by
  rw [sums_eq, stacked_inner _ _ _ c r r' w hr, weighted_at, weighted_at, own_left, own_centre, own_right,
    down_left x0 x1 w r r' hr, down_centre _ w r r' hr, down_right _ w r r' hr, below_left, below_centre, below_right]
  rfl

/-- The stored element in the last row: the row below is the next slab's first row while there is one, else the last row. -/
theorem sums_last (hr : r.val = 15) :
    sums x0 x1 x2 X n b (ix3 c r w)
      = twoRows (fun v => X (ix3 c r v)) (fun v => if b = 1#1 then n (ix3 c 0 v) else x2 (ix3 c 0 v)) (x0 (ix2 r w)) (x1 (ix2 r w)) w := by
  have h15 : r = 15 := Fin.ext hr
  have hs : ∀ v, (Scalar.select b n (shapeCast S32x1x1440 x2 shapeCasts_S32x1x1440_S32x1x1440)) (ix3 c 0 v)
      = if b = 1#1 then n (ix3 c 0 v) else x2 (ix3 c 0 v) := fun v => by
    by_cases h : b = 1#1
    · rw [if_pos h, h]; rfl
    · rw [if_neg h]; unfold Scalar.select; rw [if_neg (show ¬ b = 1 from h)]; pointwise
  rw [sums_eq, stacked_last _ _ _ c r w hr, weighted_at, rowWeighted_at, own_left, own_centre, own_right,
    last_left, last_centre, last_right, ← h15, below_left, below_centre, below_right, hs, hs, hs]
  rfl

end Stored

end Cert.KernelIdeal.Stream

end
-- ==== Proof.Tiles.lean ====
/- Where the blocks lie: each grid point's blocks of the maps, the field and the result as elements of the whole arrays. -/
module

public import proofs.«01_k».proof.Proof.Whole
public import proofs.«01_k».proof.Proof.Sums

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- Row `r` of point `t`, as a row of the whole result. -/
def rowOf (t : Fin cfg0.N) (r : Fin 16) : Fin 720 := ⟨16 * t.val + r.val, by have := lt_of_lt_of_eq t.isLt N_0; omega⟩

/-- Every window's block index at a point. -/
theorem indices : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0 ∧ win0_2.index t 2 = 0)
    ∧ (win0_3.index t 0 = 0 ∧ win0_3.index t 1 = t.val ∧ win0_3.index t 2 = 0) :=
  (by decide +kernel : ∀ t : Fin grid0.N, _)

section Reads
variable (c : Dev nD) (t : Fin cfg0.N) (k : Fin 32) (r : Fin 16) (w : Fin 1440)

/-- The row coordinates of a point's block. -/
theorem rows_at : iblk m c 0 t (ix2 r w) = m ((c : Thread nD τ).loc main_arg1) (ix2 (rowOf t r) w) := by
  rw [← V_arg1 m c]
  refine congrArg (V m c main_arg1) (funext fun a => Fin.ext ?_)
  match a with
  | ⟨0, _⟩ =>
    show win0_0.index t 0 * 16 + 1 * r.val = 16 * t.val + r.val
    rw [(indices t).1.1]; omega
  | ⟨1, _⟩ =>
    show win0_0.index t 1 * 1440 + 1 * w.val = w.val
    rw [(indices t).1.2]; omega

/-- The column coordinates of a point's block. -/
theorem columns_at : iblk m c 1 t (ix2 r w) = m ((c : Thread nD τ).loc main_arg2) (ix2 (rowOf t r) w) := by
  rw [← V_arg2 m c]
  refine congrArg (V m c main_arg2) (funext fun a => Fin.ext ?_)
  match a with
  | ⟨0, _⟩ =>
    show win0_1.index t 0 * 16 + 1 * r.val = 16 * t.val + r.val
    rw [(indices t).2.1.1]; omega
  | ⟨1, _⟩ =>
    show win0_1.index t 1 * 1440 + 1 * w.val = w.val
    rw [(indices t).2.1.2]; omega

/-- The cut row as the region finds it. -/
theorem cut_row : V m c main_v0
    = (extractStridedSlice S32x1x1440 ![0, 720, 0] (m ((c : Thread nD τ).loc main_arg0)) slices_S32x721x1440_S32x1x1440_0_720_0 : Vec Ideal S32x1x1440 .f32) := by
  rfl

/-- The third window's block is the field's last row, at every point. -/
theorem last_at : iblk m c 2 t (ix3 k 0 w) = m ((c : Thread nD τ).loc main_arg0) (ix3 k 720 w) := by
  have h : iblk m c 2 t (ix3 k 0 w) = (V m c main_v0 : Vec Ideal S32x1x1440 .f32) (ix3 k 0 w) := by
    refine congrArg (V m c main_v0) (funext fun a => Fin.ext ?_)
    match a with
    | ⟨0, _⟩ =>
      show win0_2.index t 0 * 32 + 1 * k.val = k.val
      rw [(indices t).2.2.1.1]; omega
    | ⟨1, _⟩ =>
      show win0_2.index t 1 * 1 + 1 * 0 = 0
      rw [(indices t).2.2.1.2.1]
    | ⟨2, _⟩ =>
      show win0_2.index t 2 * 1440 + 1 * w.val = w.val
      rw [(indices t).2.2.1.2.2]; omega
  rw [h, cut_row]
  pointwise

/-- A slab is sixteen rows of the field. -/
theorem slab_at (W : HbBuf (F := Ideal) c field) (b : Fin 45) (p : Fin 721) (hp : p.val = 16 * b.val + r.val) :
    slab W b (ix3 k r w) = W (ix3 k p w) := by
  refine congrArg W (funext fun a => Fin.ext ?_)
  match a with
  | ⟨0, _⟩ => show 0 + 1 * k.val = k.val; omega
  | ⟨1, _⟩ => show 16 * b.val + 1 * r.val = p.val; omega
  | ⟨2, _⟩ => show 0 + 1 * w.val = w.val; omega

/-- What a point stores, of the whole arrays: row `rowOf t r` and the row below it. -/
theorem out_at : out m c t (ix3 k r w)
    = twoRows (fun v => m ((c : Thread nD τ).loc main_arg0) (ix3 k (rowOf t r).castSucc v))
        (fun v => m ((c : Thread nD τ).loc main_arg0) (ix3 k (rowOf t r).succ v))
        (m ((c : Thread nD τ).loc main_arg1) (ix2 (rowOf t r) w)) (m ((c : Thread nD τ).loc main_arg2) (ix2 (rowOf t r) w)) w := by
  have ht : t.val < 45 := lt_of_lt_of_eq t.isLt N_0
  have hb : (Ring.bk 45 t.val).val = t.val := Ring.bk_val ht
  unfold out stored
  rw [V_arg0]
  by_cases hr : r.val < 15
  · rw [sums_inner _ _ _ _ _ _ k r w ⟨r.val + 1, by omega⟩ rfl, rows_at, columns_at]
    congr 1
    · funext v
      exact slab_at c k r v _ _ _ (by rw [hb]; rfl)
    · funext v
      exact slab_at c k _ v _ _ _ (by rw [hb]; exact Nat.add_assoc (16 * t.val) r.val 1)
  · have h15 : r.val = 15 := by omega
    rw [sums_last _ _ _ _ _ _ k r w h15, rows_at, columns_at]
    congr 1
    · funext v
      exact slab_at c k r v _ _ _ (by rw [hb]; rfl)
    · funext v
      rw [bit_eq]
      by_cases hl : t.val < 44
      · rw [if_pos hl, if_pos rfl]
        exact slab_at c k 0 v _ _ _ (by rw [Ring.bk_val (by omega)]; show 16 * t.val + r.val + 1 = 16 * (t.val + 1) + 0; omega)
      · rw [if_neg hl, if_neg (by decide), last_at]
        exact congrArg (fun p => m ((c : Thread nD τ).loc main_arg0) (ix3 k p v)) (Fin.ext (show 720 = 16 * t.val + r.val + 1 by omega))

end Reads

/-- The kernel's result at an element. -/
theorem result_at (c : Dev nD) (k : Fin 32) (r : Fin 720) (w : Fin 1440) :
    (data m 0 c).arrAt 3 cfg0.N (ix3 k r w)
      = twoRows (fun v => m ((c : Thread nD τ).loc main_arg0) (ix3 k r.castSucc v))
          (fun v => m ((c : Thread nD τ).loc main_arg0) (ix3 k r.succ v))
          (m ((c : Thread nD τ).loc main_arg1) (ix2 r w)) (m ((c : Thread nD τ).loc main_arg2) (ix2 r w)) w := by
  let t : Fin cfg0.N := ⟨r.val / 16, lt_of_lt_of_eq (by omega : r.val / 16 < 45) N_0.symm⟩
  let s : Fin 16 := ⟨r.val % 16, by omega⟩
  have hr : rowOf t s = r := Fin.ext (by show 16 * (r.val / 16) + r.val % 16 = r.val; omega)
  have hb := congrFun (block_final m c t (flush0_3 t)) (ix3 k s w)
  have e : ((cfg0.win 3).blk t).view.read (Elt Ideal) ((data m 0 c).arrAt 3 cfg0.N) (ix3 k s w)
      = (data m 0 c).arrAt 3 cfg0.N (ix3 k r w) := by
    refine congrArg ((data m 0 c).arrAt 3 cfg0.N) (funext fun a => Fin.ext ?_)
    match a with
    | ⟨0, _⟩ =>
      show win0_3.index t 0 * 32 + 1 * k.val = k.val
      rw [(indices t).2.2.2.1]; omega
    | ⟨1, _⟩ =>
      show win0_3.index t 1 * 16 + 1 * s.val = r.val
      rw [(indices t).2.2.2.2.1]; show r.val / 16 * 16 + 1 * (r.val % 16) = r.val; omega
    | ⟨2, _⟩ =>
      show win0_3.index t 2 * 1440 + 1 * w.val = w.val
      rw [(indices t).2.2.2.2.2]; omega
  have o : (cfg0.win 3).cut (grid0.coords t) (out m c t) (ix3 k s w) = out m c t (ix3 k s w) := by
    rfl
  rw [← e, hb, o, out_at, hr]

end Cert.KernelIdeal.Stream

end
-- ==== Proof.Bilinear.lean ====
/- Over the reals the kernel's three-column sums are the bilinear interpolation: one of the three weights is zero. -/
module

public import proofs.«01_k».proof.Proof.Sums

@[expose] public section

noncomputable section

namespace Cert.KernelIdeal.Stream

open Cert.KernelIdeal Cert.KernelIdeal.Gen Idealize.ShloMosaic

/-- The three column weights and the two row factors of a real coordinate whose floor is `p`. -/
theorem floor_real (j : ℝ) (p : ℕ) (h : ⌊j⌋ = (p : ℤ)) : Ideal.liftRound Int.floor (j : EReal) = ((p : ℝ) : EReal) := by
  show (((⌊j⌋ : ℤ) : ℝ) : EReal) = _
  rw [h, Int.cast_natCast]

theorem lower_real (i : ℝ) (p : ℕ) (h : ⌊i⌋ = (p : ℤ)) : lower (i : EReal) = ((i - p : ℝ) : EReal) := by
  rw [lower, floor_real i p h, ← EReal.coe_sub]

theorem upper_real (i : ℝ) (p : ℕ) (h : ⌊i⌋ = (p : ℤ)) : upper (i : EReal) = ((1 - (i - p) : ℝ) : EReal) := by
  rw [upper, lower_real i p h, ← EReal.coe_one, ← EReal.coe_sub]

section Weights
variable (j : ℝ) (p : ℕ) (h : ⌊j⌋ = (p : ℤ)) (w : Fin 1440)
include h

/-- In the cell to the right of column `w` the left weight is zero, -/
theorem weights_right (hw : p = w.val) : left (j : EReal) w = ((0 : ℝ) : EReal)
    ∧ centre (j : EReal) w = ((1 - (j - p) : ℝ) : EReal) ∧ right (j : EReal) w = ((j - p : ℝ) : EReal) := by
  have c : ((p : ℝ) : EReal) ≥ ((w.val : ℝ) : EReal) := by rw [hw]
  unfold left centre right
  rw [floor_real j p h, if_pos c, if_pos c, if_pos c, ← EReal.coe_sub, ← EReal.coe_one, ← EReal.coe_sub, EReal.coe_zero]
  exact ⟨rfl, rfl, rfl⟩

/-- and in the cell to its left the right weight is. -/
theorem weights_left (hw : p + 1 = w.val) : left (j : EReal) w = ((1 - (j - p) : ℝ) : EReal)
    ∧ centre (j : EReal) w = ((j - p : ℝ) : EReal) ∧ right (j : EReal) w = ((0 : ℝ) : EReal) := by
  have c : ¬ ((p : ℝ) : EReal) ≥ ((w.val : ℝ) : EReal) := by
    rw [ge_iff_le, EReal.coe_le_coe_iff, Nat.cast_le]; omega
  unfold left centre right
  rw [floor_real j p h, if_neg c, if_neg c, if_neg c, ← EReal.coe_sub, ← EReal.coe_one, ← EReal.coe_sub, EReal.coe_zero]
  exact ⟨rfl, rfl, rfl⟩

end Weights

/-- A row's three-column sum is the interpolation between the two columns of the cell, times the row factor. -/
theorem three_real (f : Fin 1440 → ℝ) (j k : ℝ) (q : Fin 1439) (w : Fin 1440) (h : ⌊j⌋ = (q.val : ℤ))
    (b : q.val = w.val ∨ q.val + 1 = w.val) :
    three (fun v => (f v : EReal)) (j : EReal) (k : EReal) w
      = ((k * (f q.castSucc + (j - q.val) * (f q.succ - f q.castSucc)) : ℝ) : EReal) := by
  unfold three
  rcases b with b | b
  · obtain ⟨h1, h2, h3⟩ := weights_right j q.val h w b
    have e1 : q.castSucc = w := Fin.ext b
    have e2 : rightOf w = q.succ := Fin.ext (by have := q.isLt; show min (w.val + 1) 1439 = q.val + 1; omega)
    rw [h1, h2, h3, e1, e2]
    simp only [← EReal.coe_mul, ← EReal.coe_add]
    congr 1; ring
  · obtain ⟨h1, h2, h3⟩ := weights_left j q.val h w b
    have e1 : q.succ = w := Fin.ext b
    have e2 : leftOf w = q.castSucc := Fin.ext (by show w.val - 1 = q.val; omega)
    rw [h1, h2, h3, e1, e2]
    simp only [← EReal.coe_mul, ← EReal.coe_add]
    congr 1; ring

/-- At real values and tame maps the two three-column sums are the bilinear interpolation. -/
theorem twoRows_real (x : Spec.Field.Idx → ℝ) (i j : Spec.Map.Idx → ℝ) (cell : Fin 720 → Fin 1440 → Fin 1439)
    (T : Spec.Tame i j cell) (k : Fin 32) (r : Fin 720) (w : Fin 1440) :
    twoRows (fun v => (x (ix3 k r.castSucc v) : EReal)) (fun v => (x (ix3 k r.succ v) : EReal)) (i (ix2 r w) : EReal)
      (j (ix2 r w) : EReal) w = ((Spec.resampled x i j cell k r w : ℝ) : EReal) := by
  unfold twoRows
  rw [upper_real _ _ (T.row r w), lower_real _ _ (T.row r w),
    three_real (fun v => x (ix3 k r.castSucc v)) _ _ _ _ (T.column r w) (T.beside r w),
    three_real (fun v => x (ix3 k r.succ v)) _ _ _ _ (T.column r w) (T.beside r w), ← EReal.coe_add]
  congr 1
  unfold Spec.resampled Spec.bilinear Spec.along
  ring

end Cert.KernelIdeal.Stream

end
-- ==== Proof.Inputs.lean ====
/- What the precondition says of the inputs: the values are real numbers, and the maps real numbers that are tame. -/
module

public import proofs.«01_k».proof.Pre_maps_stay_beside
public import proofs.«01_k».proof.Proof.Spec
public import Idealize.ShloMosaic.Lib.StableHlo.Predicate

@[expose] public section

noncomputable section

namespace Cert.Pre_maps_stay_beside

open Idealize.ShloMosaic

/-- The side conditions of the predicate's operations. -/
theorem facts : Facts where
  bcast_S_S720x1440 := by decide
  bcast_S_S32x721x1440 := by decide

/-- A conjunction of bits is set iff both are. -/
theorem and_set : ∀ a b : BitVec 1, IntOp.andi a b = 1#1 → a = 1#1 ∧ b = 1#1 := by decide

/-- A decided bit is set iff the fact holds. -/
theorem of_set (p : Prop) [Decidable p] (h : BitVec.ofBool (decide p) = 1#1) : p := by
  by_contra hp
  rw [decide_eq_false hp] at h
  exact absurd h (by decide)

/-- An index as a float is the index. -/
theorem index_at (n : ℕ) (h : n < 2 ^ 31) : (FloatOps.sitofp FTy.f32 (BitVec.ofNat 32 n) : Ideal .f32) = ((n : ℝ) : EReal) := by
  show (((BitVec.ofNat 32 n).toInt : ℝ) : EReal) = _
  rw [StableHlo.Predicate.toInt_ofNat_small _ h, Int.cast_natCast]

variable [Facts] (x : FVec Ideal S32x721x1440 .f32) (i j : FVec Ideal S720x1440 .f32)

/-- The first mask at an element: the value is a real number. -/
theorem finite_at (c : Fin 32) (r : Fin 721) (w : Fin 1440) (h : (fn x i j).1 (ix3 c r w) = 1#1) :
    ∃ a : ℝ, x (ix3 c r w) = (a : EReal) := by
  revert h
  pointwise [fn, fn_part1]
  intro h
  have htop : Ideal.ofBits .f32 0x7F800000#32 = ⊤ := by simp [Ideal.ofBits, Ideal.ieee]
  have hm : max (x (ix3 c r w) : EReal) (-(x (ix3 c r w) : EReal)) < ⊤ := by
    rw [← htop]; exact of_set _ h
  generalize x (ix3 c r w) = y at hm
  change EReal at y
  rw [max_lt_iff] at hm
  have hbot : y ≠ ⊥ := by
    rintro rfl
    exact absurd hm.2 (by simp)
  exact ⟨y.toReal, (EReal.coe_toReal hm.1.ne hbot).symm⟩

/-- The second mask at an element: both coordinates are real numbers, the row's in its row's cell, the column's in a cell
    of the grid touching its column. -/
theorem near_at (r : Fin 720) (w : Fin 1440) (h : (fn x i j).2 (ix2 r w) = 1#1) :
    ∃ a b : ℝ, i (ix2 r w) = (a : EReal) ∧ j (ix2 r w) = (b : EReal) ∧ (r.val : ℝ) ≤ a ∧ a < r.val + 1
      ∧ (w.val : ℝ) - 1 ≤ b ∧ 0 ≤ b ∧ b < w.val + 1 ∧ b < 1439 := by
  revert h
  pointwise [fn, fn_part1]
  intro h
  obtain ⟨hr, hw⟩ := and_set _ _ h
  obtain ⟨h1, h2⟩ := and_set _ _ hr
  obtain ⟨h3, h4⟩ := and_set _ _ hw
  replace h1 := of_set _ h1
  replace h2 := of_set _ h2
  replace h3 := of_set _ h3
  replace h4 := of_set _ h4
  have hlast : Ideal.ofBits .f32 0x44B3E000#32 = ((1439 : ℝ) : EReal) := by
    simp [Ideal.ofBits, Ideal.ieee]
    norm_num [← EReal.coe_mul]
  rw [index_at _ (by have := r.isLt; omega)] at h1 h2
  rw [index_at _ (by have := w.isLt; omega)] at h3 h4
  rw [hlast] at h4
  generalize i (ix2 r w) = u at h1 h2
  generalize j (ix2 r w) = v at h3 h4
  change EReal at u
  change EReal at v
  replace h2 : u < ((r.val : ℝ) : EReal) + 1 := h2
  replace h3 : max (((w.val : ℝ) : EReal) - 1) 0 ≤ v := h3
  replace h4 : v < min (((w.val : ℝ) : EReal) + 1) ((1439 : ℝ) : EReal) := h4
  rw [← EReal.coe_one, ← EReal.coe_add] at h2
  rw [← EReal.coe_one, ← EReal.coe_sub, ← EReal.coe_zero, max_le_iff] at h3
  rw [← EReal.coe_one, ← EReal.coe_add, lt_min_iff] at h4
  lift u to ℝ using ⟨h2.ne_top, ((EReal.bot_lt_coe _).trans_le h1).ne'⟩
  lift v to ℝ using ⟨h4.2.ne_top, ((EReal.bot_lt_coe _).trans_le h3.2).ne'⟩
  exact ⟨u, v, rfl, rfl, EReal.coe_le_coe_iff.1 h1, EReal.coe_lt_coe_iff.1 h2, EReal.coe_le_coe_iff.1 h3.1,
    EReal.coe_le_coe_iff.1 h3.2, EReal.coe_lt_coe_iff.1 h4.1, EReal.coe_lt_coe_iff.1 h4.2⟩

/-- A column coordinate in a cell of the grid touching column `w`: the cell. -/
theorem cell_of (b : ℝ) (w : Fin 1440) (h1 : (w.val : ℝ) - 1 ≤ b) (h2 : 0 ≤ b) (h3 : b < w.val + 1) (h4 : b < 1439) :
    ∃ q : Fin 1439, ⌊b⌋ = (q.val : ℤ) ∧ (q.val = w.val ∨ q.val + 1 = w.val) := by
  have f1 : (w.val : ℤ) - 1 ≤ ⌊b⌋ := Int.le_floor.2 (by push_cast; exact h1)
  have f2 : 0 ≤ ⌊b⌋ := Int.le_floor.2 (by exact_mod_cast h2)
  have f3 : ⌊b⌋ < (w.val : ℤ) + 1 := Int.floor_lt.2 (by push_cast; exact h3)
  have f4 : ⌊b⌋ < 1439 := Int.floor_lt.2 (by exact_mod_cast h4)
  exact ⟨⟨⌊b⌋.toNat, by omega⟩, by simp only []; omega, by simp only []; omega⟩

/-- Under the precondition the inputs are real, and the maps tame. -/
theorem tame (h1 : (fn x i j).1 = fun _ => 1#1) (h2 : (fn x i j).2 = fun _ => 1#1) :
    ∃ (x' : Spec.Field.Idx → ℝ) (i' j' : Spec.Map.Idx → ℝ) (cell : Fin 720 → Fin 1440 → Fin 1439),
      x = (fun z => (x' z : EReal)) ∧ i = (fun z => (i' z : EReal)) ∧ j = (fun z => (j' z : EReal))
      ∧ Spec.Tame i' j' cell := by
  choose x' hx using fun (z : Spec.Field.Idx) => finite_at x i j (z 0) (z 1) (z 2) (congrFun h1 _)
  choose i' j' hi hj r1 r2 c1 c2 c3 c4 using fun (r : Fin 720) (w : Fin 1440) => near_at x i j r w (congrFun h2 _)
  choose cell hc hb using fun (r : Fin 720) (w : Fin 1440) => cell_of (j' r w) w (c1 r w) (c2 r w) (c3 r w) (c4 r w)
  refine ⟨x', fun z => i' (z 0) (z 1), fun z => j' (z 0) (z 1), cell, funext fun z => ?_, funext fun z => ?_,
    funext fun z => ?_, ⟨fun r w => ?_, hc, hb⟩⟩
  · rw [← hx z]; exact congrArg x (eq_ix3 z)
  · rw [← hi (z 0) (z 1)]; exact congrArg i (eq_ix2 z)
  · rw [← hj (z 0) (z 1)]; exact congrArg j (eq_ix2 z)
  · exact Int.floor_eq_iff.2 ⟨by exact_mod_cast r1 r w, by exact_mod_cast r2 r w⟩

end Cert.Pre_maps_stay_beside

end
-- ==== Proof.lean ====
/- The certificate's claims, put together from the modules under Proof/. -/
module

public import proofs.«01_k».proof.Defs
public import proofs.«01_k».proof.Proof.Same
public import proofs.«01_k».proof.Proof.Gen.ReferenceIdeal.Run
public import proofs.«01_k».proof.Proof.Reference
public import proofs.«01_k».proof.Proof.Tiles
public import proofs.«01_k».proof.Proof.Bilinear
public import proofs.«01_k».proof.Proof.Inputs

@[expose] public section

noncomputable section

namespace Cert.Proof

open Idealize.ShloMosaic Idealize.SL.Sem

/-- The reference's frame: its host run leaves the arguments alone, and it has no semaphore. -/
theorem quiescent_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Under the precondition the kernel's final result is the reference's: both are the bilinear interpolation of the inputs. -/
theorem same_result [Cert.Pre_maps_stay_beside.Facts]
    (m : (ℓ : Loc Cert.KernelIdeal.nD Cert.KernelIdeal.τ Cert.KernelIdeal.sig) → Buf (Elt Ideal) ℓ) (c : Dev Cert.KernelIdeal.nD)
    (h1 : (Cert.Pre_maps_stay_beside.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))).1 = fun _ => 1#1)
    (h2 : (Cert.Pre_maps_stay_beside.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))).2 = fun _ => 1#1) :
    (Cert.KernelIdeal.Stream.data m 0 c).arrAt 3 Cert.KernelIdeal.cfg0.N
      = Cert.ReferenceIdeal.Reads.answer (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  obtain ⟨x, i, j, cell, hx, hi, hj, T⟩ := Cert.Pre_maps_stay_beside.tame _ _ _ h1 h2
  funext z
  rw [eq_ix3 z, Cert.KernelIdeal.Stream.result_at m c (z 0) (z 1) (z 2), hx, hi, hj,
    Cert.ReferenceIdeal.Reads.answer_at x i j cell T (z 0) (z 1) (z 2)]
  exact Cert.KernelIdeal.Stream.twoRows_real x i j cell T (z 0) (z 1) (z 2)

/-- The value claim: from memories agreeing on the arguments, under the precondition, kernel and reference end with equal
    results, their arguments unchanged. -/
theorem algebraic [Cert.Pre_maps_stay_beside.Facts] :
    Cert.algebraic_KernelIdeal_ReferenceIdeal_pre_maps_stay_beside := by
  intro m g m' g' hpre hagree
  refine ⟨fun c => (Cert.KernelIdeal.Stream.data m 0 c).arrAt 3 Cert.KernelIdeal.cfg0.N, ?_, ?_⟩
  · exact (θ_run Cert.KernelIdeal.defs _ _).mono (fun r h c => ⟨(h.1 c).1 3, Cert.KernelIdeal.Stream.kept m h.1 c⟩)
      (Cert.KernelIdeal.Stream.run_raw m g)
  · refine (θ_run Cert.ReferenceIdeal.defs _ _).mono (fun r h c => ⟨(h c).1.trans ?_, (h c).2⟩)
      (Cert.ReferenceIdeal.Value.run m' g')
    refine (Cert.ReferenceIdeal.Reads.res_eq m' c).trans ?_
    rw [(hagree c).1, (hagree c).2.1, (hagree c).2.2]
    exact (same_result m c (hpre c).1 (hpre c).2).symm

/-- Everything the certificate claims. -/
theorem claim : Cert.Claim :=
  letI := Cert.Pre_maps_stay_beside.facts
  ⟨Cert.Kernel.Gen.facts, Cert.KernelIdeal.Gen.facts, Cert.ReferenceIdeal.Gen.facts, Cert.Pre_maps_stay_beside.facts,
    quiescent_kernel, quiescent_kernelIdeal, fun m g _ => quiescent_kernelIdeal m g trivial, quiescent_reference,
    fun m g _ => quiescent_reference m g trivial, trivial, algebraic⟩

end Cert.Proof

end
